-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_bf16_range [hPre_in_bf16_range : Cert.Pre_in_bf16_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_bf16_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_bf16_range [hPre_in_bf16_range : Cert.Pre_in_bf16_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_bf16_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_in_bf16_range [hKernelIdeal : Cert.KernelIdeal.Facts] [hPre_in_bf16_range : Cert.Pre_in_bf16_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_bf16_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_in_bf16_range [hReferenceIdeal : Cert.ReferenceIdeal.Facts] [hPre_in_bf16_range : Cert.Pre_in_bf16_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_bf16_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_in_bf16_range [hKernelIdeal : Cert.KernelIdeal.Facts] [hReferenceIdeal : Cert.ReferenceIdeal.Facts] [hPre_in_bf16_range : Cert.Pre_in_bf16_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_bf16_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)) (v2 : (c : Dev Cert.KernelIdeal.nD) → Buf (Elt Ideal) ((c.tc : Thread Cert.KernelIdeal.nD Cert.KernelIdeal.τ).loc Cert.KernelIdeal.main_v5_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_v5_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5_0) = v0 c
          ∧ r.2.mem ((c.tc : Thread Cert.ReferenceIdeal.nD Cert.ReferenceIdeal.τ).loc Cert.ReferenceIdeal.main_v5_1) = v1 c
          ∧ r.2.mem ((c.tc : Thread Cert.ReferenceIdeal.nD Cert.ReferenceIdeal.τ).loc Cert.ReferenceIdeal.main_v5_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_in_bf16_range : Cert.Pre_in_bf16_range.Facts),
    quiescent_Kernel (hKernel := hKernel)
    ∧ quiescent_KernelIdeal (hKernelIdeal := hKernelIdeal)
    ∧ quiescent_KernelIdeal_pre_in_bf16_range (hKernelIdeal := hKernelIdeal) (hPre_in_bf16_range := hPre_in_bf16_range)
    ∧ quiescent_ReferenceIdeal (hReferenceIdeal := hReferenceIdeal)
    ∧ quiescent_ReferenceIdeal_pre_in_bf16_range (hReferenceIdeal := hReferenceIdeal) (hPre_in_bf16_range := hPre_in_bf16_range)
    ∧ preserves_Kernel_KernelIdeal
    ∧ algebraic_KernelIdeal_ReferenceIdeal_pre_in_bf16_range (hKernelIdeal := hKernelIdeal) (hReferenceIdeal := hReferenceIdeal) (hPre_in_bf16_range := hPre_in_bf16_range)
-- ==== Pre_in_bf16_range.lean ====
abbrev S6x256x1536 : Shape := ⟨3, ![6, 256, 1536]⟩
abbrev S6x1536 : Shape := ⟨2, ![6, 1536]⟩
abbrev S6x6144 : Shape := ⟨2, ![6, 6144]⟩
abbrev S1536x6144 : Shape := ⟨2, ![1536, 6144]⟩
abbrev S6144 : Shape := ⟨1, ![6144]⟩
abbrev S_ : Shape := ⟨0, ![]⟩

class Facts : Prop where
  bcast_S_S6x1536 : S_.BroadcastsInDim S6x1536 (![] : Fin 0 → Fin S6x1536.rank)

variable [Facts]

def fn {F : FTy → Type} [FloatOps F] (main_arg0 : FVec F S6x256x1536 .bf16) (main_arg1 : FVec F S6x1536 .bf16) (main_arg2 : FVec F S6x1536 .bf16) (main_arg3 : FVec F S6x6144 .bf16) (main_arg4 : FVec F S1536x6144 .fp8e4m3) (main_arg5 : FVec F S6144 .f32) (main_arg6 : FVec F S6144 .bf16) : IVec S6x1536 1 :=
  let main_cst : FVec F S_ .bf16 := constant S_ .bf16 0x7F7F#16
  let main_v0 : FVec F S6x1536 .bf16 := Host.absf main_arg1
  let main_v1 : FVec F S6x1536 .bf16 := broadcastInDim S6x1536 ![] bcast_S_S6x1536 main_cst
  let main_v2 : IVec S6x1536 1 := cmpf .ole main_v0 main_v1
  let main_v3 : FVec F S6x1536 .bf16 := Host.absf main_arg1
  let main_cst_0 : FVec F S_ .bf16 := constant S_ .bf16 0x7F80#16
  let main_v4 : FVec F S6x1536 .bf16 := broadcastInDim S6x1536 ![] bcast_S_S6x1536 main_cst_0
  let main_v5 : IVec S6x1536 1 := cmpf .oeq main_v3 main_v4
  let main_v6 : IVec S6x1536 1 := ori main_v2 main_v5
  let main_v7 : FVec F S6x1536 .bf16 := Host.absf main_arg2
  let main_v8 : FVec F S6x1536 .bf16 := broadcastInDim S6x1536 ![] bcast_S_S6x1536 main_cst
  let main_v9 : IVec S6x1536 1 := cmpf .ole main_v7 main_v8
  let main_v10 : FVec F S6x1536 .bf16 := Host.absf main_arg2
  let main_cst_1 : FVec F S_ .bf16 := constant S_ .bf16 0x7F80#16
  let main_v11 : FVec F S6x1536 .bf16 := broadcastInDim S6x1536 ![] bcast_S_S6x1536 main_cst_1
  let main_v12 : IVec S6x1536 1 := cmpf .oeq main_v10 main_v11
  let main_v13 : IVec S6x1536 1 := ori main_v9 main_v12
  let main_v14 : IVec S6x1536 1 := andi main_v6 main_v13
  main_v14
-- ==== Kernel.lean ====
abbrev S6x256x1536 : Shape := ⟨3, ![6, 256, 1536]⟩
abbrev S6x1536 : Shape := ⟨2, ![6, 1536]⟩
abbrev S6x6144 : Shape := ⟨2, ![6, 6144]⟩
abbrev S1536x6144 : Shape := ⟨2, ![1536, 6144]⟩
abbrev S6144 : Shape := ⟨1, ![6144]⟩
abbrev S6x1x1536 : Shape := ⟨3, ![6, 1, 1536]⟩
abbrev S6x1x6144 : Shape := ⟨3, ![6, 1, 6144]⟩
abbrev S1x6144 : Shape := ⟨2, ![1, 6144]⟩
abbrev S6x256x6144 : Shape := ⟨3, ![6, 256, 6144]⟩
abbrev S6x1x256 : Shape := ⟨3, ![6, 1, 256]⟩
abbrev S1x256x1536 : Shape := ⟨3, ![1, 256, 1536]⟩
abbrev S1x1x1536 : Shape := ⟨3, ![1, 1, 1536]⟩
abbrev S1x1x6144 : Shape := ⟨3, ![1, 1, 6144]⟩
abbrev S1x256x6144 : Shape := ⟨3, ![1, 256, 6144]⟩
abbrev S1x1x256 : Shape := ⟨3, ![1, 1, 256]⟩
abbrev S256x128 : Shape := ⟨2, ![256, 128]⟩
abbrev S1x1536 : Shape := ⟨2, ![1, 1536]⟩
abbrev S1x32x1536 : Shape := ⟨3, ![1, 32, 1536]⟩
abbrev S32x1536 : Shape := ⟨2, ![32, 1536]⟩
abbrev S32 : Shape := ⟨1, ![32]⟩
abbrev S32x1 : Shape := ⟨2, ![32, 1]⟩
abbrev S32x256 : Shape := ⟨2, ![32, 256]⟩
abbrev S32x128 : Shape := ⟨2, ![32, 128]⟩
abbrev S128x256 : Shape := ⟨2, ![128, 256]⟩
abbrev S1x256 : Shape := ⟨2, ![1, 256]⟩
abbrev S256x1 : Shape := ⟨2, ![256, 1]⟩
abbrev S256x1536 : Shape := ⟨2, ![256, 1536]⟩
abbrev S1536x512 : Shape := ⟨2, ![1536, 512]⟩
abbrev S256x512 : Shape := ⟨2, ![256, 512]⟩
abbrev S1x512 : Shape := ⟨2, ![1, 512]⟩
abbrev S1x1x512 : Shape := ⟨3, ![1, 1, 512]⟩
abbrev S1x256x512 : Shape := ⟨3, ![1, 256, 512]⟩

abbrev nBuf : Space → Nat
  | .hbm => 15
  | .vmem => 18
  | .smem => 0
  | _ => 0

abbrev bufTy : (tb : Table) → Fin (tcTables nBuf tb) → BufTy
  | .hbm, ⟨0, _⟩ => ⟨S6x256x1536, .bf16⟩
  | .hbm, ⟨1, _⟩ => ⟨S6x1536, .bf16⟩
  | .hbm, ⟨2, _⟩ => ⟨S6x1536, .bf16⟩
  | .hbm, ⟨3, _⟩ => ⟨S6x6144, .bf16⟩
  | .hbm, ⟨4, _⟩ => ⟨S1536x6144, .fp8e4m3⟩
  | .hbm, ⟨5, _⟩ => ⟨S6144, .f32⟩
  | .hbm, ⟨6, _⟩ => ⟨S6144, .bf16⟩
  | .hbm, ⟨7, _⟩ => ⟨S6x1x1536, .bf16⟩
  | .hbm, ⟨8, _⟩ => ⟨S6x1x1536, .bf16⟩
  | .hbm, ⟨9, _⟩ => ⟨S6x1x6144, .bf16⟩
  | .hbm, ⟨10, _⟩ => ⟨S1x6144, .f32⟩
  | .hbm, ⟨11, _⟩ => ⟨S1x6144, .bf16⟩
  | .hbm, ⟨12, _⟩ => ⟨S6x256x6144, .bf16⟩
  | .hbm, ⟨13, _⟩ => ⟨S6x256x1536, .fp8e4m3⟩
  | .hbm, ⟨14, _⟩ => ⟨S6x1x256, .f32⟩
  | .local _ .vmem, ⟨0, _⟩ => ⟨S1x256x1536, .bf16⟩
  | .local _ .vmem, ⟨1, _⟩ => ⟨S1x256x1536, .bf16⟩
  | .local _ .vmem, ⟨2, _⟩ => ⟨S1x1x1536, .bf16⟩
  | .local _ .vmem, ⟨3, _⟩ => ⟨S1x1x1536, .bf16⟩
  | .local _ .vmem, ⟨4, _⟩ => ⟨S1x1x1536, .bf16⟩
  | .local _ .vmem, ⟨5, _⟩ => ⟨S1x1x1536, .bf16⟩
  | .local _ .vmem, ⟨6, _⟩ => ⟨S1x1x6144, .bf16⟩
  | .local _ .vmem, ⟨7, _⟩ => ⟨S1x1x6144, .bf16⟩
  | .local _ .vmem, ⟨8, _⟩ => ⟨S1536x6144, .fp8e4m3⟩
  | .local _ .vmem, ⟨9, _⟩ => ⟨S1x6144, .f32⟩
  | .local _ .vmem, ⟨10, _⟩ => ⟨S1x6144, .bf16⟩
  | .local _ .vmem, ⟨11, _⟩ => ⟨S1x256x6144, .bf16⟩
  | .local _ .vmem, ⟨12, _⟩ => ⟨S1x256x6144, .bf16⟩
  | .local _ .vmem, ⟨13, _⟩ => ⟨S1x256x1536, .fp8e4m3⟩
  | .local _ .vmem, ⟨14, _⟩ => ⟨S1x256x1536, .fp8e4m3⟩
  | .local _ .vmem, ⟨15, _⟩ => ⟨S1x1x256, .f32⟩
  | .local _ .vmem, ⟨16, _⟩ => ⟨S1x1x256, .f32⟩
  | .local _ .vmem, ⟨17, _⟩ => ⟨S256x128, .f32⟩
  | _, _ => ⟨S6x256x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_v5_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![6], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x6144 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1536x6144 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x6144 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x6144 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x256x6144 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x256x1536 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceIdeal.lean ====
abbrev S6x256x1536 : Shape := ⟨3, ![6, 256, 1536]⟩
abbrev S6x1536 : Shape := ⟨2, ![6, 1536]⟩
abbrev S6x6144 : Shape := ⟨2, ![6, 6144]⟩
abbrev S1536x6144 : Shape := ⟨2, ![1536, 6144]⟩
abbrev S6144 : Shape := ⟨1, ![6144]⟩
abbrev S6x1x1536 : Shape := ⟨3, ![6, 1, 1536]⟩
abbrev S6x1x6144 : Shape := ⟨3, ![6, 1, 6144]⟩
abbrev S1x6144 : Shape := ⟨2, ![1, 6144]⟩
abbrev S6x256x6144 : Shape := ⟨3, ![6, 256, 6144]⟩
abbrev S6x1x256 : Shape := ⟨3, ![6, 1, 256]⟩
abbrev S6x256 : Shape := ⟨2, ![6, 256]⟩
abbrev S6x256x1 : Shape := ⟨3, ![6, 256, 1]⟩
abbrev S1536x1536 : Shape := ⟨2, ![1536, 1536]⟩
abbrev S1x1x6144 : Shape := ⟨3, ![1, 1, 6144]⟩

abbrev nBuf : Space → Nat
  | .hbm => 15
  | .vmem => 10
  | .smem => 0
  | _ => 0

abbrev bufTy : (tb : Table) → Fin (tcTables nBuf tb) → BufTy
  | .hbm, ⟨0, _⟩ => ⟨S6x256x1536, .bf16⟩
  | .hbm, ⟨1, _⟩ => ⟨S6x1536, .bf16⟩
  | .hbm, ⟨2, _⟩ => ⟨S6x1536, .bf16⟩
  | .hbm, ⟨3, _⟩ => ⟨S6x6144, .bf16⟩
  | .hbm, ⟨4, _⟩ => ⟨S1536x6144, .fp8e4m3⟩
  | .hbm, ⟨5, _⟩ => ⟨S6144, .f32⟩
  | .hbm, ⟨6, _⟩ => ⟨S6144, .bf16⟩
  | .hbm, ⟨7, _⟩ => ⟨S6x1x1536, .bf16⟩
  | .hbm, ⟨8, _⟩ => ⟨S6x1x1536, .bf16⟩
  | .hbm, ⟨9, _⟩ => ⟨S6x1x6144, .bf16⟩
  | .hbm, ⟨10, _⟩ => ⟨S1x6144, .f32⟩
  | .hbm, ⟨11, _⟩ => ⟨S1x6144, .bf16⟩
  | .hbm, ⟨12, _⟩ => ⟨S6x256x6144, .bf16⟩
  | .hbm, ⟨13, _⟩ => ⟨S6x256x1536, .fp8e4m3⟩
  | .hbm, ⟨14, _⟩ => ⟨S6x1x256, .f32⟩
  | .local _ .vmem, ⟨0, _⟩ => ⟨S6x256x1536, .bf16⟩
  | .local _ .vmem, ⟨1, _⟩ => ⟨S6x1x1536, .bf16⟩
  | .local _ .vmem, ⟨2, _⟩ => ⟨S6x1x1536, .bf16⟩
  | .local _ .vmem, ⟨3, _⟩ => ⟨S6x1x6144, .bf16⟩
  | .local _ .vmem, ⟨4, _⟩ => ⟨S1536x6144, .fp8e4m3⟩
  | .local _ .vmem, ⟨5, _⟩ => ⟨S1x6144, .f32⟩
  | .local _ .vmem, ⟨6, _⟩ => ⟨S1x6144, .bf16⟩
  | .local _ .vmem, ⟨7, _⟩ => ⟨S6x256x6144, .bf16⟩
  | .local _ .vmem, ⟨8, _⟩ => ⟨S6x256x1536, .fp8e4m3⟩
  | .local _ .vmem, ⟨9, _⟩ => ⟨S6x1x256, .f32⟩
  | _, _ => ⟨S6x256x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_v5_2 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S6x256x1536 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S6x1x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S6x1x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S6x1x6144 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1536x6144 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x6144 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x6144 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S6x256x6144 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S6x256x1536 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S6x1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Proof.Scale.lean ====
module

public import Idealize.ShloMosaic.PureOps
public import Idealize.ShloMosaic.PureOps.Ideal
public import Idealize.ShloMosaic.PureOps.Reduce

/-!
  # The scale of one row

  A row's scale is the power of two above `s`, the row's greatest magnitude over 448. The kernel takes
  the exponent of `s` by comparing `s` with the 256 numbers whose significand is zero, and builds the
  powers of two from their bit patterns; the reference writes `exp2 (floor (log s / log 2) + 1)`. The
  two give the same scale and the same inverse scale for every `s ≥ 0` that is infinite or below `2^126`.
-/

@[expose] public section

noncomputable section

namespace Cert.Proof

open Idealize.ShloMosaic

/-! ## The kernel's spelling -/

/-- The float whose sign and significand bits are zero and whose exponent field is the word `k`. -/
def pow (k : BitVec 32) : EReal := Ideal.ofBits .f32 (IntOp.shli .vector k 23#32)

/-- The exponent field of `a ≥ 0`: the greatest of the 256 fields whose power is at most `a`. -/
def field (a : EReal) : BitVec 32 :=
  (Finset.univ : Finset (Fin 256)).fold (IKind.op .maxsi) 2147483648#32
    fun k => Scalar.select (Ideal.cmp .oge a (pow (BitVec.ofNat 32 k.val))) (BitVec.ofNat 32 k.val) 0#32

/-- The kernel's exponent: the field less 126, and 0 where the field is that of a zero or an infinity. -/
def kexp (a : EReal) : BitVec 32 :=
  Scalar.select (IntOp.andi (IntOp.cmpi .ne (field a) 0#32) (IntOp.cmpi .ne (field a) 255#32))
    (IntOp.subi (field a) 126#32) 0#32

/-- The kernel's scale and inverse scale, from the exponent's bits. -/
def kscale (a : EReal) : EReal := pow (IntOp.addi (kexp a) 127#32)
/-- The kernel's inverse scale. -/
def kinv (a : EReal) : EReal := pow (IntOp.subi 127#32 (kexp a))

/-! ## The reference's spelling -/

/-- The reference's exponent: `floor (log a / log 2) + 1` for a normal `a`, else 0. -/
def rexp (a : EReal) : EReal :=
  Scalar.select
    (IntOp.andi (Ideal.cmp .oge a (Ideal.ofBits .f32 0x00800000#32)) (Ideal.cmp .olt a (Ideal.ofBits .f32 0x7F800000#32)))
    (Ideal.liftRound Int.floor (Ideal.div (Ideal.log a) (Ideal.log (Ideal.ofBits .f32 0x40000000#32)))
      + Ideal.ofBits .f32 0x3F800000#32)
    (Ideal.ofBits .f32 0x00000000#32)

/-- The reference's scale and inverse scale. -/
def rscale (a : EReal) : EReal := Ideal.exp2 (rexp a)
/-- The reference's inverse scale. -/
def rinv (a : EReal) : EReal := Ideal.exp2 (Ideal.ofBits .f32 0x00000000#32 - rexp a)

/-! ## Constants -/

/-- Shifting the word `k` left by 23 multiplies it by `2^23`. -/
theorem shl_23 (k : Nat) : IntOp.shli .vector (BitVec.ofNat 32 k) 23#32 = BitVec.ofNat 32 k <<< 23 := by
  unfold IntOp.shli
  rw [if_pos (by decide)]
  rfl

/-- The sign of the word `k << 23`. -/
theorem sign_bit (k : Nat) (h : k < 256) : ((BitVec.ofNat 32 k <<< 23).extractLsb' (8 + 23) 1 == 1#1) = false := by
  rw [beq_eq_false_iff_ne]
  intro hc
  have := congrArg BitVec.toNat hc
  rw [BitVec.extractLsb'_toNat, BitVec.toNat_shiftLeft, BitVec.toNat_ofNat, Nat.shiftRight_eq_div_pow,
    Nat.shiftLeft_eq] at this
  rw [show (1#1).toNat = 1 from rfl] at this
  omega

/-- The exponent field of the word `k << 23` is `k`. -/
theorem exp_bits (k : Nat) (h : k < 256) : ((BitVec.ofNat 32 k <<< 23).extractLsb' 23 8).toNat = k := by
  rw [BitVec.extractLsb'_toNat, BitVec.toNat_shiftLeft, BitVec.toNat_ofNat, Nat.shiftRight_eq_div_pow,
    Nat.shiftLeft_eq]
  omega

/-- The fraction of the word `k << 23` is zero. -/
theorem frac_bits (k : Nat) : ((BitVec.ofNat 32 k <<< 23).extractLsb' 0 23).toNat = 0 := by
  rw [BitVec.extractLsb'_toNat, BitVec.toNat_shiftLeft, BitVec.toNat_ofNat, Nat.shiftRight_eq_div_pow,
    Nat.shiftLeft_eq]
  omega

/-- The value of a pattern with exponent field `k` strictly between 0 and 255 and zero significand. -/
theorem pow_mid (k : Nat) (h1 : 1 ≤ k) (h2 : k ≤ 254) :
    pow (BitVec.ofNat 32 k) = (((2 : ℝ) ^ ((k : ℤ) - 127) : ℝ) : EReal) := by
  unfold pow
  rw [shl_23]
  show Ideal.ieee 8 23 _ = _
  unfold Ideal.ieee
  simp only [sign_bit k (by omega), exp_bits k (by omega), frac_bits k]
  rw [if_neg (by omega), if_neg (by omega)]
  refine congrArg Real.toEReal ?_
  simp only [Bool.false_eq_true, if_false, Nat.add_zero, one_mul]
  rw [show ((k : ℤ) - (2 ^ (8 - 1) - 1) - ((23 : ℕ) : ℤ)) = ((k : ℤ) - 127) + (-23) by norm_num; ring,
    zpow_add₀ (by norm_num : (2 : ℝ) ≠ 0), mul_left_comm]
  rw [show (((2 ^ 23 : ℕ) : ℝ) * 2 ^ (-23 : ℤ)) = 1 by rw [Nat.cast_pow, Nat.cast_ofNat, zpow_neg]; norm_num, mul_one]

/-- The word of exponent field 0 is zero. -/
theorem pow_zero' : pow 0#32 = 0 := by
  have : IntOp.shli .vector 0#32 23#32 = 0#32 := by decide
  unfold pow
  rw [this]
  simp [Ideal.ofBits, Ideal.ieee]

/-- The word of exponent field 255 is infinity. -/
theorem pow_255 : pow 255#32 = ⊤ := by
  have : IntOp.shli .vector 255#32 23#32 = 0x7F800000#32 := by decide
  unfold pow
  rw [this]
  simp [Ideal.ofBits, Ideal.ieee]

/-- These bits are the least normal number. -/
theorem c_min : Ideal.ofBits .f32 0x00800000#32 = (((2 : ℝ) ^ (-126 : ℤ) : ℝ) : EReal) :=
  pow_mid 1 (by norm_num) (by norm_num)

/-- These bits are infinity. -/
theorem c_inf : Ideal.ofBits .f32 0x7F800000#32 = ⊤ := pow_255

/-- These bits are 1. -/
theorem c_one : Ideal.ofBits .f32 0x3F800000#32 = ((1 : ℝ) : EReal) := by
  refine (pow_mid 127 (by norm_num) (by norm_num)).trans ?_
  norm_num

/-- These bits are 2. -/
theorem c_two : Ideal.ofBits .f32 0x40000000#32 = ((2 : ℝ) : EReal) := by
  refine (pow_mid 128 (by norm_num) (by norm_num)).trans ?_
  norm_num

/-- These bits are 0. -/
theorem c_zero : Ideal.ofBits .f32 0x00000000#32 = 0 := pow_zero'

/-! ## Comparisons -/

/-- The test `x ≥ y` where it holds. -/
theorem cmp_oge_pos {x y : EReal} (h : y ≤ x) : Ideal.cmp .oge x y = 1#1 := by simp [Ideal.cmp, h]
/-- The test `x ≥ y` where it fails. -/
theorem cmp_oge_neg {x y : EReal} (h : x < y) : Ideal.cmp .oge x y = 0#1 := by simp [Ideal.cmp, not_le.mpr h]
/-- The test `x < y` where it holds. -/
theorem cmp_olt_pos {x y : EReal} (h : x < y) : Ideal.cmp .olt x y = 1#1 := by simp [Ideal.cmp, h]
/-- The test `x < y` where it fails. -/
theorem cmp_olt_neg {x y : EReal} (h : y ≤ x) : Ideal.cmp .olt x y = 0#1 := by simp [Ideal.cmp, not_lt.mpr h]

/-! ## The field -/

/-- The field of `a` is `K` when `K`'s power is at most `a` and every power at most `a` has field at most `K`. -/
theorem field_eq {a : EReal} (K : Nat) (hK : K ≤ 255) (h : pow (BitVec.ofNat 32 K) ≤ a)
    (hmax : ∀ k, k ≤ 255 → pow (BitVec.ofNat 32 k) ≤ a → k ≤ K) : field a = BitVec.ofNat 32 K := by
  have hom : ∀ x y : BitVec 32, (IKind.op .maxsi x y).toInt = max x.toInt y.toInt := by
    intro x y
    show (IntOp.maxsi x y).toInt = _
    unfold IntOp.maxsi
    rw [BitVec.slt_eq_decide]
    by_cases hxy : y.toInt < x.toInt
    · simp [hxy, max_eq_left hxy.le]
    · simp [hxy, max_eq_right (not_lt.mp hxy)]
  have toI : ∀ k : Nat, k ≤ 255 → (BitVec.ofNat 32 k).toInt = k := by
    intro k hk
    rw [BitVec.toInt_eq_toNat_of_lt] <;> simp <;> omega
  apply BitVec.eq_of_toInt_eq
  unfold field
  rw [← Finset.fold_hom (op' := max) (m := BitVec.toInt) hom, toI K hK]
  apply le_antisymm
  · rw [Finset.fold_max_le]
    refine ⟨by simp, fun k _ => ?_⟩
    unfold Scalar.select Ideal.cmp
    by_cases hk : pow (BitVec.ofNat 32 k.val) ≤ a
    · rw [if_pos (by simp [hk]), toI _ (by omega)]
      exact_mod_cast hmax _ (by omega) hk
    · rw [if_neg (by simp [hk])]
      simp
  · rw [Finset.le_fold_max]
    refine .inr ⟨⟨K, by omega⟩, Finset.mem_univ _, ?_⟩
    unfold Scalar.select Ideal.cmp
    rw [if_pos (by simp [h]), toI _ hK]

/-- The kernel's scales at field `K` for `1 ≤ K ≤ 252`. -/
theorem kscale_mid {a : EReal} (K : Nat) (h1 : 1 ≤ K) (h2 : K ≤ 252) (hf : field a = BitVec.ofNat 32 K) :
    kscale a = (((2 : ℝ) ^ ((K : ℤ) - 126) : ℝ) : EReal) ∧ kinv a = (((2 : ℝ) ^ (126 - (K : ℤ)) : ℝ) : EReal) := by
  have he : kexp a = BitVec.ofNat 32 K - 126#32 := by
    unfold kexp
    rw [hf]
    have n0 : BitVec.ofNat 32 K ≠ 0#32 := by
      intro h; have := congrArg BitVec.toNat h; simp at this; omega
    have n1 : BitVec.ofNat 32 K ≠ 255#32 := by
      intro h; have := congrArg BitVec.toNat h; simp at this; omega
    have c0 : IntOp.cmpi .ne (BitVec.ofNat 32 K) 0#32 = 1#1 := by
      show BitVec.ofBool (BitVec.ofNat 32 K != 0#32) = 1#1
      rw [bne_iff_ne.mpr n0]; rfl
    have c1 : IntOp.cmpi .ne (BitVec.ofNat 32 K) 255#32 = 1#1 := by
      show BitVec.ofBool (BitVec.ofNat 32 K != 255#32) = 1#1
      rw [bne_iff_ne.mpr n1]; rfl
    rw [c0, c1]
    rfl
  constructor
  · unfold kscale
    have : IntOp.addi (kexp a) 127#32 = BitVec.ofNat 32 (K + 1) := by
      rw [he]; unfold IntOp.addi
      apply BitVec.eq_of_toNat_eq
      simp [BitVec.toNat_add, BitVec.toNat_sub]; omega
    rw [this, pow_mid _ (by omega) (by omega)]
    push_cast; congr 2; ring
  · unfold kinv
    have : IntOp.subi 127#32 (kexp a) = BitVec.ofNat 32 (253 - K) := by
      rw [he]; unfold IntOp.subi
      apply BitVec.eq_of_toNat_eq
      simp [BitVec.toNat_sub]; omega
    rw [this, pow_mid _ (by omega) (by omega)]
    congr 2
    rw [Nat.cast_sub (by omega)]
    push_cast; ring

/-- The kernel's scales are 1 where the field is that of a zero or an infinity. -/
theorem kscale_end {a : EReal} (hf : field a = 0#32 ∨ field a = 255#32) : kscale a = 1 ∧ kinv a = 1 := by
  have he : kexp a = 0#32 := by
    unfold kexp
    rcases hf with h | h <;> rw [h] <;> rfl
  have h127 := pow_mid 127 (by norm_num) (by norm_num)
  have h1 : pow (127#32) = 1 := by
    refine h127.trans ?_
    norm_num
  constructor
  · unfold kscale; rw [he]; exact h1
  · unfold kinv; rw [he]; exact h1

/-! ## The reference's scales -/

/-- The reference's scales are 1 off the normal numbers. -/
theorem rscale_end {a : EReal} (h : a < (((2 : ℝ) ^ (-126 : ℤ) : ℝ) : EReal) ∨ a = ⊤) : rscale a = 1 ∧ rinv a = 1 := by
  have he : rexp a = 0 := by
    unfold rexp
    rw [c_min, c_inf, c_zero]
    rcases h with h | h
    · rw [cmp_oge_neg h]
      unfold Scalar.select IntOp.andi
      rw [if_neg (by simp)]
    · rw [h, cmp_olt_neg le_rfl]
      unfold Scalar.select IntOp.andi
      rw [if_neg (by simp)]
  constructor
  · unfold rscale
    rw [he, ← EReal.coe_zero, Ideal.exp2_coe]
    simp
  · unfold rinv
    rw [he, c_zero, sub_zero, ← EReal.coe_zero, Ideal.exp2_coe]
    simp

/-- The reference's scales at a normal number between `2^n` and `2^(n+1)`. -/
theorem rscale_mid {r : ℝ} (n : ℤ) (hn : (2 : ℝ) ^ n ≤ r) (hn' : r < (2 : ℝ) ^ (n + 1)) (h126 : (-126 : ℤ) ≤ n) :
    rscale (r : EReal) = (((2 : ℝ) ^ (n + 1) : ℝ) : EReal) ∧ rinv (r : EReal) = (((2 : ℝ) ^ (-(n + 1)) : ℝ) : EReal) := by
  have hr0 : 0 < r := lt_of_lt_of_le (by positivity) hn
  have hlog2 : 0 < Real.log 2 := Real.log_pos (by norm_num)
  have hfl : ⌊Real.log r * (Real.log 2)⁻¹⌋ = n := by
    rw [Int.floor_eq_iff, ← div_eq_mul_inv]
    constructor
    · rw [le_div_iff₀ hlog2, ← Real.log_zpow]
      exact Real.log_le_log (by positivity) hn
    · rw [div_lt_iff₀ hlog2]
      have := Real.log_lt_log hr0 hn'
      rw [Real.log_zpow] at this
      push_cast at this ⊢
      exact this
  have hmin : (((2 : ℝ) ^ (-126 : ℤ) : ℝ) : EReal) ≤ (r : EReal) :=
    EReal.coe_le_coe_iff.mpr (le_trans (zpow_le_zpow_right₀ (by norm_num) h126) hn)
  have he : rexp (r : EReal) = (((n : ℝ) + 1 : ℝ) : EReal) := by
    unfold rexp
    rw [c_min, c_inf, c_zero, c_one, c_two]
    rw [cmp_oge_pos hmin, cmp_olt_pos (EReal.coe_lt_top r)]
    unfold Scalar.select IntOp.andi
    rw [if_pos (by decide)]
    rw [Ideal.log_coe, Ideal.log_coe, if_neg (not_le.mpr hr0), if_neg (by norm_num)]
    unfold Ideal.div
    rw [if_neg (by exact_mod_cast hlog2.ne'), ← EReal.coe_inv, ← EReal.coe_mul, Ideal.liftRound_coe, hfl, EReal.coe_add]
  constructor
  · unfold rscale
    rw [he, Ideal.exp2_coe]
    show (((2 : ℝ) ^ ((n : ℝ) + 1) : ℝ) : EReal) = _
    rw [← Real.rpow_intCast]; push_cast; rfl
  · unfold rinv
    rw [he, c_zero, zero_sub, ← EReal.coe_neg, Ideal.exp2_coe]
    show (((2 : ℝ) ^ (-((n : ℝ) + 1)) : ℝ) : EReal) = _
    rw [← Real.rpow_intCast]; push_cast; rfl

/-- Every power below field 255 is real; field 255's is `⊤`: the field of `⊤` is 255. -/
theorem field_top : field ⊤ = 255#32 :=
  field_eq 255 le_rfl le_top fun _ h _ => h

/-- The field of a number below the least normal one is 0. -/
theorem field_small {a : EReal} (h0 : 0 ≤ a) (h : a < (((2 : ℝ) ^ (-126 : ℤ) : ℝ) : EReal)) : field a = 0#32 := by
  refine field_eq 0 (by norm_num) (by rw [pow_zero']; exact h0) fun k hk hle => ?_
  by_contra hc
  rcases Nat.lt_or_ge k 255 with h2 | h2
  · rw [pow_mid k (by omega) (by omega)] at hle
    have := lt_of_le_of_lt hle h
    rw [EReal.coe_lt_coe_iff] at this
    have := (zpow_lt_zpow_iff_right₀ (by norm_num : (1 : ℝ) < 2)).mp this
    omega
  · obtain rfl : k = 255 := by omega
    rw [pow_255] at hle
    exact absurd (lt_of_le_of_lt hle h) not_top_lt

/-- The field of a number between `2^n` and `2^(n+1)`. -/
theorem field_mid {r : ℝ} (n : ℤ) (hn : (2 : ℝ) ^ n ≤ r) (hn' : r < (2 : ℝ) ^ (n + 1)) (h1 : (-126 : ℤ) ≤ n) (h2 : n ≤ 127) :
    field (r : EReal) = BitVec.ofNat 32 (n + 127).toNat := by
  have hc : (((n + 127).toNat : ℕ) : ℤ) - 127 = n := by omega
  refine field_eq _ (by omega) ?_ fun k hk hle => ?_
  · rw [pow_mid _ (by omega) (by omega), EReal.coe_le_coe_iff, hc]
    exact hn
  · by_contra hcon
    rcases Nat.lt_or_ge k 255 with h3 | h3
    · rw [pow_mid k (by omega) (by omega), EReal.coe_le_coe_iff] at hle
      have := (zpow_lt_zpow_iff_right₀ (by norm_num : (1 : ℝ) < 2)).mp (lt_of_le_of_lt hle hn')
      omega
    · obtain rfl : k = 255 := by omega
      rw [pow_255] at hle
      exact absurd hle (not_le.mpr (EReal.coe_lt_top r))

/-- Every positive real lies between a power of two and the next. -/
theorem exists_zpow {r : ℝ} (h0 : 0 < r) : ∃ n : ℤ, (2 : ℝ) ^ n ≤ r ∧ r < (2 : ℝ) ^ (n + 1) :=
  exists_mem_Ico_zpow h0 (by norm_num)

/-- THE SCALES AGREE: for `a ≥ 0`, infinite or below `2^126`, the kernel's bits give the reference's powers. -/
theorem scales_eq {a : EReal} (h0 : 0 ≤ a) (h : a = ⊤ ∨ a < (((2 : ℝ) ^ (126 : ℤ) : ℝ) : EReal)) :
    kscale a = rscale a ∧ kinv a = rinv a := by
  rcases h with rfl | h
  · obtain ⟨h1, h2⟩ := kscale_end (a := ⊤) (.inr field_top)
    obtain ⟨h3, h4⟩ := rscale_end (a := ⊤) (.inr rfl)
    exact ⟨h1.trans h3.symm, h2.trans h4.symm⟩
  · rcases lt_or_ge a (((2 : ℝ) ^ (-126 : ℤ) : ℝ) : EReal) with hs | hs
    · obtain ⟨h1, h2⟩ := kscale_end (.inl (field_small h0 hs))
      obtain ⟨h3, h4⟩ := rscale_end (.inl hs)
      exact ⟨h1.trans h3.symm, h2.trans h4.symm⟩
    · induction a with
      | bot => simp at h0
      | top => simp at h
      | coe r =>
        rw [EReal.coe_lt_coe_iff] at h
        rw [EReal.coe_le_coe_iff] at hs
        have hr : 0 < r := lt_of_lt_of_le (by positivity) hs
        obtain ⟨n, hn, hn'⟩ := exists_zpow hr
        have b1 : (-126 : ℤ) < n + 1 := (zpow_lt_zpow_iff_right₀ (by norm_num : (1 : ℝ) < 2)).mp (lt_of_le_of_lt hs hn')
        have b2 : n < 126 := (zpow_lt_zpow_iff_right₀ (by norm_num : (1 : ℝ) < 2)).mp (lt_of_le_of_lt hn h)
        obtain ⟨h1, h2⟩ := kscale_mid _ (by omega) (by omega) (field_mid n hn hn' (by omega) (by omega))
        obtain ⟨h3, h4⟩ := rscale_mid n hn hn' (by omega)
        rw [h1, h2, h3, h4]
        have hc : (((n + 127).toNat : ℕ) : ℤ) = n + 127 := by omega
        rw [hc]
        constructor <;> congr 2 <;> ring

end Cert.Proof

end
-- ==== Proof.Row.lean ====
module

public import proofs.«01_k».proof.Proof.Scale

/-!
  # One row: normalisation, modulation, scale and codes

  The functions a row of 1536 numbers goes through, as both programs compute them, and the bound that
  keeps the scale inside the range on which the two spellings of the scale agree.
-/

@[expose] public section

noncomputable section

namespace Cert.Proof

open Idealize.ShloMosaic
open scoped BigOperators

/-- A row of 1536 numbers. -/
abbrev Row : Type := Fin 1536 → EReal

/-- The mean of a row. -/
def mean (x : Row) : EReal := Ideal.div (∑ k, x k) (Ideal.ofBits .f32 0x44C00000#32)

/-- The row less its mean. -/
def dev (x : Row) : Row := fun j => x j - mean x

/-- The variance of a row. -/
def var (x : Row) : EReal := Ideal.div (∑ k, dev x k * dev x k) (Ideal.ofBits .f32 0x44C00000#32)

/-- The row normalised to mean zero and variance one. -/
def unit (x : Row) : Row := fun j => dev x j * Ideal.rsqrt (var x + Ideal.ofBits .f32 0x358637BD#32)

/-- The normalised row modulated by a gain `1 + g` and a shift `t`. -/
def modulated (x g t : Row) : Row := fun j => unit x j * (Ideal.ofBits .f32 0x3F800000#32 + g j) + t j

/-- The greatest magnitude of a row. -/
def amax (h : Row) : EReal :=
  (Finset.univ : Finset (Fin 1536)).fold max (Ideal.ofBits .f32 0xFF800000#32) fun k => max (h k) (-(h k))

/-- The number whose power of two above is the row's scale: the greatest magnitude times 1/448. -/
def mag (h : Row) : EReal := amax h * Ideal.ofBits .f32 0x3B124925#32

/-- A number clipped to `[-448, 448]`. -/
def clip (a : EReal) : EReal := min (Ideal.ofBits .f32 0x43E00000#32) (max (Ideal.ofBits .f32 0xC3E00000#32) a)

/-- The row's scale and codes in the kernel's spelling. -/
def krowScale (x g t : Row) : EReal := kscale (mag (modulated x g t))
/-- The kernel's codes of a row. -/
def krowCode (x g t : Row) : Row := fun j => clip (modulated x g t j * kinv (mag (modulated x g t)))

/-- The row's scale and codes in the reference's spelling. -/
def rrowScale (x g t : Row) : EReal := rscale (mag (modulated x g t))
/-- The reference's codes of a row. -/
def rrowCode (x g t : Row) : Row := fun j => clip (modulated x g t j * rinv (mag (modulated x g t)))

/-! ## Constants -/

/-- These bits are minus infinity. -/
theorem c_bot : Ideal.ofBits .f32 0xFF800000#32 = ⊥ := by simp [Ideal.ofBits, Ideal.ieee]

/-- These bits are 1536. -/
theorem c_1536 : Ideal.ofBits .f32 0x44C00000#32 = ((1536 : ℝ) : EReal) := by
  simp only [Ideal.ofBits, Ideal.ieee]
  refine (if_neg (by decide) |>.trans (if_neg (by decide))).trans (congrArg Real.toEReal ?_)
  simp
  norm_num [zpow_neg]

/-- These bits are a positive real. -/
theorem c_eps : ∃ e : ℝ, 0 < e ∧ Ideal.ofBits .f32 0x358637BD#32 = (e : EReal) := by
  simp only [Ideal.ofBits, Ideal.ieee]
  refine ⟨_, ?_, if_neg (by decide) |>.trans (if_neg (by decide))⟩
  simp

/-- These bits are a positive real below 1/164. -/
theorem c_448inv : ∃ c : ℝ, 0 < c ∧ c * 164 < 1 ∧ Ideal.ofBits .f32 0x3B124925#32 = (c : EReal) := by
  simp only [Ideal.ofBits, Ideal.ieee]
  refine ⟨_, ?_, ?_, if_neg (by decide) |>.trans (if_neg (by decide))⟩
  · simp
  · simp
    norm_num [zpow_neg]

/-- bf16's largest finite number. -/
def bmax : ℝ := 255 * 2 ^ 120

/-! ## The bound -/

/-- A square is not negative. -/
theorem mul_self_nonneg' (a : EReal) : 0 ≤ a * a := by
  induction a with
  | bot => simp
  | top => simp
  | coe r => rw [← EReal.coe_mul]; exact_mod_cast mul_self_nonneg r

/-- A sum of reals is the same sum in the extended reals. -/
theorem coe_sum' {n : Nat} (f : Fin n → ℝ) : (∑ k, ((f k : ℝ) : EReal)) = ((∑ k, f k : ℝ) : EReal) := by
  induction n with
  | zero => simp
  | succ n ih => rw [Fin.sum_univ_succ, Fin.sum_univ_succ, ih, EReal.coe_add]

/-- A normalised row is real, and at most 40 in magnitude: no hypothesis on the row. -/
theorem unit_bound (x : Row) (j : Fin 1536) : ∃ r : ℝ, unit x j = (r : EReal) ∧ |r| ≤ 40 := by
  obtain ⟨e, he, hc⟩ := c_eps
  by_cases hall : ∀ k, ∃ r : ℝ, dev x k = (r : EReal)
  · choose d hd using hall
    have hv : var x = (((∑ k, d k * d k) * (1536 : ℝ)⁻¹ : ℝ) : EReal) := by
      unfold var Ideal.div
      rw [c_1536, if_neg (by norm_num)]
      simp only [hd, ← EReal.coe_mul, coe_sum', ← EReal.coe_inv]
    have hS : d j * d j ≤ ∑ k, d k * d k :=
      Finset.single_le_sum (f := fun k => d k * d k) (fun k _ => mul_self_nonneg (d k)) (Finset.mem_univ j)
    set S := ∑ k, d k * d k
    have hS0 : 0 ≤ S := le_trans (mul_self_nonneg _) hS
    have hpos : 0 < S * (1536 : ℝ)⁻¹ + e := by positivity
    refine ⟨d j * (Real.sqrt (S * (1536 : ℝ)⁻¹ + e))⁻¹, ?_, ?_⟩
    · unfold unit
      rw [hd, hv, hc, ← EReal.coe_add, Ideal.rsqrt_coe, if_neg (not_lt.mpr hpos.le), if_neg hpos.ne', ← EReal.coe_mul]
    · have hs : 0 < Real.sqrt (S * (1536 : ℝ)⁻¹ + e) := Real.sqrt_pos.mpr hpos
      rw [abs_mul, abs_inv, abs_of_pos hs, ← div_eq_mul_inv, div_le_iff₀ hs]
      have h1600 : Real.sqrt (1600 * (S * (1536 : ℝ)⁻¹ + e)) = 40 * Real.sqrt (S * (1536 : ℝ)⁻¹ + e) := by
        rw [Real.sqrt_mul (by norm_num), show (1600 : ℝ) = 40 ^ 2 by norm_num, Real.sqrt_sq (by norm_num)]
      rw [← h1600]
      apply Real.abs_le_sqrt
      have : S ≤ 1600 * (S * (1536 : ℝ)⁻¹) := by
        have : S = 1536 * (S * (1536 : ℝ)⁻¹) := by field_simp
        nlinarith [mul_nonneg hS0 (by norm_num : (0 : ℝ) ≤ (1536 : ℝ)⁻¹)]
      nlinarith
  · push Not at hall
    obtain ⟨i, hi⟩ := hall
    have hi2 : dev x i * dev x i = ⊤ := by
      induction hdi : dev x i with
      | bot => simp
      | top => simp
      | coe r => exact absurd hdi (hi r)
    have hsum : ∑ k, dev x k * dev x k = ⊤ := by
      apply top_le_iff.mp
      rw [← hi2]
      exact Finset.single_le_sum (f := fun k => dev x k * dev x k) (fun k _ => mul_self_nonneg' _) (Finset.mem_univ i)
    have hv : var x = ⊤ := by
      unfold var Ideal.div
      rw [hsum, c_1536, if_neg (by norm_num), ← EReal.coe_inv]
      exact EReal.top_mul_coe_of_pos (by norm_num)
    refine ⟨0, ?_, by norm_num⟩
    unfold unit
    rw [hv, hc, EReal.top_add_coe, Ideal.rsqrt_top, mul_zero, EReal.coe_zero]

/-- A number a bf16 vector can hold: at most bf16's largest finite one in magnitude, or infinite. -/
def InRange (a : EReal) : Prop := max a (-a) ≤ (bmax : EReal) ∨ max a (-a) = ⊤

/-- A value in range is an infinity or a real of bounded size. -/
theorem InRange.cases {a : EReal} (h : InRange a) : a = ⊤ ∨ a = ⊥ ∨ ∃ r : ℝ, a = (r : EReal) ∧ |r| ≤ bmax := by
  induction a with
  | bot => simp
  | top => simp
  | coe r =>
    refine .inr (.inr ⟨r, rfl, ?_⟩)
    rcases h with h | h
    · rw [max_le_iff, ← EReal.coe_neg, EReal.coe_le_coe_iff, EReal.coe_le_coe_iff] at h
      exact abs_le'.mpr h
    · rw [← EReal.coe_neg] at h
      rcases max_choice (r : EReal) ((-r : ℝ) : EReal) with h' | h' <;> rw [h'] at h <;> simp at h

/-- The greatest magnitude a modulated row has when it is finite. -/
def hmax : ℝ := 40 * (1 + bmax) + bmax

/-- A modulated number is infinite or at most `hmax` in magnitude. -/
theorem modulated_bound {x g t : Row} (j : Fin 1536) (hg : InRange (g j)) (ht : InRange (t j)) :
    modulated x g t j = ⊤ ∨ modulated x g t j = ⊥ ∨ ∃ r : ℝ, modulated x g t j = (r : EReal) ∧ |r| ≤ hmax := by
  obtain ⟨u, hu, hub⟩ := unit_bound x j
  unfold modulated
  rw [hu, c_one]
  have hgain : (u : EReal) * (((1 : ℝ) : EReal) + g j) = ⊤ ∨ (u : EReal) * (((1 : ℝ) : EReal) + g j) = ⊥
      ∨ ∃ r : ℝ, (u : EReal) * (((1 : ℝ) : EReal) + g j) = (r : EReal) ∧ |r| ≤ 40 * (1 + bmax) := by
    have hb : (0 : ℝ) ≤ bmax := by unfold bmax; positivity
    have hz : ∃ r : ℝ, (0 : EReal) = (r : EReal) ∧ |r| ≤ 40 * (1 + bmax) := ⟨0, rfl, by rw [abs_zero]; positivity⟩
    rcases hg.cases with h | h | ⟨r, h, hr⟩
    · rw [h, EReal.coe_add_top]
      rcases lt_trichotomy u 0 with h0 | h0 | h0
      · exact .inr (.inl (EReal.coe_mul_top_of_neg h0))
      · subst h0; rw [EReal.coe_zero, zero_mul]; exact .inr (.inr hz)
      · exact .inl (EReal.coe_mul_top_of_pos h0)
    · rw [h, EReal.add_bot]
      rcases lt_trichotomy u 0 with h0 | h0 | h0
      · exact .inl (EReal.coe_mul_bot_of_neg h0)
      · subst h0; rw [EReal.coe_zero, zero_mul]; exact .inr (.inr hz)
      · exact .inr (.inl (EReal.coe_mul_bot_of_pos h0))
    · refine .inr (.inr ⟨u * (1 + r), by rw [h, EReal.coe_mul, EReal.coe_add], ?_⟩)
      rw [abs_mul]
      have : |1 + r| ≤ 1 + bmax := (abs_add_le _ _).trans (by rw [abs_one]; linarith)
      exact mul_le_mul hub this (abs_nonneg _) (by norm_num)
  rcases ht.cases with h | h | ⟨r, h, hr⟩
  · rw [h]
    rcases hgain with h1 | h1 | ⟨q, h1, -⟩ <;> rw [h1] <;> simp
  · rw [h]; simp
  · rw [h]
    rcases hgain with h1 | h1 | ⟨q, h1, hq⟩
    · rw [h1]; simp
    · rw [h1]; simp
    · refine .inr (.inr ⟨q + r, by rw [h1, EReal.coe_add], ?_⟩)
      unfold hmax
      exact (abs_add_le _ _).trans (add_le_add hq hr)

/-- A magnitude is not negative. -/
theorem nonneg_mag' (a : EReal) : 0 ≤ max a (-a) := by
  rcases le_total 0 a with h | h
  · exact le_max_of_le_left h
  · exact le_max_of_le_right (EReal.neg_nonneg.mpr h)

/-- The greatest magnitude is not negative. -/
theorem amax_nonneg (h : Row) : 0 ≤ amax h := by
  unfold amax
  rw [Finset.le_fold_max]
  exact .inr ⟨0, Finset.mem_univ _, nonneg_mag' _⟩

/-- The number under the scale is not negative, and infinite or below `2^126`. -/
theorem mag_bound {x g t : Row} (hg : ∀ j, InRange (g j)) (ht : ∀ j, InRange (t j)) :
    0 ≤ mag (modulated x g t)
      ∧ (mag (modulated x g t) = ⊤ ∨ mag (modulated x g t) < (((2 : ℝ) ^ (126 : ℤ) : ℝ) : EReal)) := by
  obtain ⟨c, hc0, hc, hcc⟩ := c_448inv
  have h0 := amax_nonneg (modulated x g t)
  have hmb : amax (modulated x g t) = ⊤ ∨ amax (modulated x g t) ≤ (hmax : EReal) := by
    by_cases hi : ∃ j, modulated x g t j = ⊤ ∨ modulated x g t j = ⊥
    · left
      obtain ⟨j, hj⟩ := hi
      apply top_le_iff.mp
      unfold amax
      rw [Finset.le_fold_max]
      refine .inr ⟨j, Finset.mem_univ _, ?_⟩
      rcases hj with hj | hj <;> rw [hj] <;> simp
    · right
      unfold amax
      rw [Finset.fold_max_le]
      refine ⟨by rw [c_bot]; exact bot_le, fun j _ => ?_⟩
      push Not at hi
      rcases modulated_bound (x := x) j (hg j) (ht j) with h | h | ⟨r, h, hr⟩
      · exact absurd h (hi j).1
      · exact absurd h (hi j).2
      · rw [h, max_le_iff, ← EReal.coe_neg, EReal.coe_le_coe_iff, EReal.coe_le_coe_iff]
        exact abs_le'.mp hr
  unfold mag
  rw [hcc]
  refine ⟨mul_nonneg h0 (by exact_mod_cast hc0.le), ?_⟩
  rcases hmb with h | h
  · left; rw [h]; exact EReal.top_mul_coe_of_pos hc0
  · right
    refine lt_of_le_of_lt (mul_le_mul_of_nonneg_right h (by exact_mod_cast hc0.le)) ?_
    rw [← EReal.coe_mul, EReal.coe_lt_coe_iff]
    have hm : hmax ≤ 164 * (2 : ℝ) ^ (126 : ℤ) := by
      unfold hmax bmax
      norm_num
    have : hmax * c ≤ (164 * (2 : ℝ) ^ (126 : ℤ)) * c := mul_le_mul_of_nonneg_right hm hc0.le
    have h2 : (0 : ℝ) < (2 : ℝ) ^ (126 : ℤ) := by positivity
    calc hmax * c ≤ (c * 164) * (2 : ℝ) ^ (126 : ℤ) := by linarith
      _ < 1 * (2 : ℝ) ^ (126 : ℤ) := mul_lt_mul_of_pos_right hc h2
      _ = _ := one_mul _

/-- A ROW'S SCALE is the same in the two spellings when gain and shift are numbers of bf16. -/
theorem rowScale_eq {x g t : Row} (hg : ∀ j, InRange (g j)) (ht : ∀ j, InRange (t j)) :
    krowScale x g t = rrowScale x g t :=
  (scales_eq (mag_bound hg ht).1 (mag_bound hg ht).2).1

/-- A ROW'S CODES are the same in the two spellings when gain and shift are numbers of bf16. -/
theorem rowCode_eq {x g t : Row} (hg : ∀ j, InRange (g j)) (ht : ∀ j, InRange (t j)) :
    krowCode x g t = rrowCode x g t := by
  funext j
  unfold krowCode rrowCode
  rw [(scales_eq (mag_bound hg ht).1 (mag_bound hg ht).2).2]

end Cert.Proof

end
-- ==== Proof.Layout.lean ====
module

public import Idealize.ShloMosaic.PureOps
public import Idealize.ShloMosaic.PureOps.Ideal.Laws
public import Idealize.ShloMosaic.Lib.Pipeline.Value
public import Idealize.ShloMosaic.Lib.ValueLayout
public import Idealize.ShloMosaic.Lib.ValueLayoutCasts

/-!
  # Vectors read at an index

  Broadcasts, casts and reductions read at an index written by its coordinates, and each pointwise
  operation read at an index over the extended reals.
-/

@[expose] public section

noncomputable section

namespace Cert.Proof

open Idealize.ShloMosaic Idealize.ShloMosaic.ValueIdx
open scoped BigOperators

section Shapes

variable {α : Type}

/-- A column broadcast along the rows reads the column. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A stack of columns broadcast along the rows reads its column. -/
theorem broadcastTo_ma1_mab_apply {m a b : ℕ} (v : (⟨3, ![m, a, 1]⟩ : Shape).Idx → α)
    (h : (⟨3, ![m, a, 1]⟩ : Shape).Broadcasts ⟨3, ![m, a, b]⟩) (q : Fin m) (p : Fin a) (c : Fin b) :
    broadcastTo ⟨3, ![m, a, b]⟩ v h (ix3 q p c) = v (ix3 q p (0 : Fin 1)) := by
  refine broadcastTo_apply v h (ix3 q p c) (ix3 q p (0 : Fin 1)) fun ax => ?_
  match ax with
  | ⟨0, _⟩ =>
    show q.val = if m = 1 then 0 else q.val
    split
    · have := q.isLt; omega
    · rfl
  | ⟨1, _⟩ =>
    show p.val = if a = 1 then 0 else p.val
    split
    · have := p.isLt; omega
    · rfl
  | ⟨2, _⟩ => rfl

/-- A stack of single rows broadcast down the columns reads its row. -/
theorem broadcastTo_m1b_mab_apply {m a b : ℕ} (v : (⟨3, ![m, 1, b]⟩ : Shape).Idx → α)
    (h : (⟨3, ![m, 1, b]⟩ : Shape).Broadcasts ⟨3, ![m, a, b]⟩) (q : Fin m) (p : Fin a) (c : Fin b) :
    broadcastTo ⟨3, ![m, a, b]⟩ v h (ix3 q p c) = v (ix3 q (0 : Fin 1) c) := by
  refine broadcastTo_apply v h (ix3 q p c) (ix3 q (0 : Fin 1) c) fun ax => ?_
  match ax with
  | ⟨0, _⟩ =>
    show q.val = if m = 1 then 0 else q.val
    split
    · have := q.isLt; omega
    · rfl
  | ⟨1, _⟩ => rfl
  | ⟨2, _⟩ =>
    show c.val = if b = 1 then 0 else c.val
    split
    · have := c.isLt; omega
    · rfl

/-- One row broadcast over a stack of matrices reads the row. -/
theorem broadcastTo_11b_mab_apply {m a b : ℕ} (v : (⟨3, ![1, 1, b]⟩ : Shape).Idx → α)
    (h : (⟨3, ![1, 1, b]⟩ : Shape).Broadcasts ⟨3, ![m, a, b]⟩) (q : Fin m) (p : Fin a) (c : Fin b) :
    broadcastTo ⟨3, ![m, a, b]⟩ v h (ix3 q p c) = v (ix3 (0 : Fin 1) (0 : Fin 1) c) := by
  refine broadcastTo_apply v h (ix3 q p c) (ix3 (0 : Fin 1) (0 : Fin 1) c) fun ax => ?_
  match ax with
  | ⟨0, _⟩ => rfl
  | ⟨1, _⟩ => rfl
  | ⟨2, _⟩ =>
    show c.val = if b = 1 then 0 else c.val
    split
    · have := c.isLt; omega
    · rfl

/-- A cast to the same shape changes nothing. -/
theorem shapeCast_same {s : Shape} (v : s.Idx → α) (h : s.ShapeCasts s) (i : s.Idx) : shapeCast s v h i = v i :=
  shapeCast_apply v h i i rfl

/-- A matrix cast to a stack of columns. -/
theorem shapeCast_ab_ab1_apply {a b : ℕ} (x : (⟨2, ![a, b]⟩ : Shape).Idx → α) (h : (⟨2, ![a, b]⟩ : Shape).ShapeCasts ⟨3, ![a, b, 1]⟩)
    (i : Fin a) (j : Fin b) (u : Fin 1) : shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- A stack of matrices cast to one tall matrix: its row `r` is row `r % a` of matrix `r / a`. -/
theorem shapeCast_tall_apply {m a b n : ℕ} (x : (⟨3, ![m, a, b]⟩ : Shape).Idx → α) (h : (⟨3, ![m, a, b]⟩ : Shape).ShapeCasts ⟨2, ![n, b]⟩)
    (q : Fin m) (p : Fin a) (c : Fin b) (r : Fin n) (hr : r.val = q.val * a + p.val) :
    shapeCast ⟨2, ![n, b]⟩ x h (ix2 r c) = x (ix3 q p c) :=
  shapeCast_apply x h _ _ (by
    rw [Shape.rowMajor_val_three, Shape.rowMajor_val_two]
    show (q.val * a + p.val) * b + c.val = r.val * b + c.val
    rw [hr])

/-- One tall matrix cast to a stack of matrices. -/
theorem shapeCast_stack_apply {m a b n : ℕ} (x : (⟨2, ![n, b]⟩ : Shape).Idx → α) (h : (⟨2, ![n, b]⟩ : Shape).ShapeCasts ⟨3, ![m, a, b]⟩)
    (q : Fin m) (p : Fin a) (c : Fin b) (r : Fin n) (hr : r.val = q.val * a + p.val) :
    shapeCast ⟨3, ![m, a, b]⟩ x h (ix3 q p c) = x (ix2 r c) :=
  shapeCast_apply x h _ _ (by
    rw [Shape.rowMajor_val_three, Shape.rowMajor_val_two]
    show r.val * b + c.val = (q.val * a + p.val) * b + c.val
    rw [hr])

/-- The index over row `r` of a matrix reduced along its rows. -/
theorem lift_2 {a b : ℕ} (h : Shape.Reduces ⟨2, ![a, b]⟩ [1] ⟨1, ![a]⟩) (r : Fin a) (k : Fin b) :
    h.lift (ix1 r) k = ix2 r k := by
  funext c
  match c with
  | ⟨0, _⟩ => rfl
  | ⟨1, _⟩ => rfl

/-- The index over row `r` of matrix `q` of a stack reduced along the rows. -/
theorem lift_3 {m a b : ℕ} (h : Shape.Reduces ⟨3, ![m, a, b]⟩ [2] ⟨2, ![m, a]⟩) (q : Fin m) (r : Fin a) (k : Fin b) :
    h.lift (ix2 q r) k = ix3 q r k := by
  funext c
  match c with
  | ⟨0, _⟩ => rfl
  | ⟨1, _⟩ => rfl
  | ⟨2, _⟩ => rfl

end Shapes

section Ops

variable {s : Shape} {φ ψ : FTy}

/-- This float operation acts entry by entry. -/
theorem addf_at (x y : FVec Ideal s φ) (i : s.Idx) : addf x y i = ((x i : EReal) + y i : EReal) := rfl
/-- This float operation acts entry by entry. -/
theorem subf_at (x y : FVec Ideal s φ) (i : s.Idx) : subf x y i = ((x i : EReal) - y i : EReal) := rfl
/-- This float operation acts entry by entry. -/
theorem mulf_at (x y : FVec Ideal s φ) (i : s.Idx) : mulf x y i = ((x i : EReal) * y i : EReal) := rfl
/-- This float operation acts entry by entry. -/
theorem divf_at (x y : FVec Ideal s φ) (i : s.Idx) : divf x y i = Ideal.div (x i) (y i) := rfl
/-- This float operation acts entry by entry. -/
theorem maximumf_at (x y : FVec Ideal s φ) (i : s.Idx) : maximumf x y i = (max (x i) (y i) : EReal) := rfl
/-- This float operation acts entry by entry. -/
theorem minimumf_at (x y : FVec Ideal s φ) (i : s.Idx) : minimumf x y i = (min (x i) (y i) : EReal) := rfl
/-- This float operation acts entry by entry. -/
theorem absf_at (x : FVec Ideal s φ) (i : s.Idx) : absf x i = (max (x i) (-(x i) : EReal) : EReal) := rfl
/-- This float operation acts entry by entry. -/
theorem rsqrt_at (x : FVec Ideal s φ) (i : s.Idx) : rsqrt x i = Ideal.rsqrt (x i) := rfl
/-- This float operation acts entry by entry. -/
theorem exp2_at (x : FVec Ideal s φ) (i : s.Idx) : exp2 x i = Ideal.exp2 (x i) := rfl
/-- This float operation acts entry by entry. -/
theorem log_at (x : FVec Ideal s φ) (i : s.Idx) : log x i = Ideal.log (x i) := rfl
/-- This float operation acts entry by entry. -/
theorem floor_at (x : FVec Ideal s φ) (i : s.Idx) : floor x i = Ideal.liftRound Int.floor (x i) := rfl
/-- A float comparison acts entry by entry. -/
theorem cmpf_at (p : CmpFPredicate) (x y : FVec Ideal s φ) (i : s.Idx) : cmpf p x y i = Ideal.cmp p (x i) (y i) := rfl
/-- Widening a float changes no entry. -/
theorem extf_at (x : FVec Ideal s φ) (h) (i : s.Idx) : extf (F := Ideal) ψ x h i = x i := rfl
/-- Narrowing a float changes no entry. -/
theorem truncf_at (x : FVec Ideal s φ) (h) (i : s.Idx) : truncf (F := Ideal) ψ x h i = x i := rfl
/-- A broadcast scalar has that value at every entry. -/
theorem broadcast_at {α : Type} (a : α) (i : s.Idx) : broadcast s a i = a := rfl
/-- A float constant is the value of its bits. -/
theorem ofBits_at (b : BitVec φ.bits) : (Scalar.ofBits φ b : Ideal φ) = Ideal.ofBits φ b := rfl
/-- A selection acts entry by entry. -/
theorem select_at {α : Type} (c : IVec s 1) (a b : s.Idx → α) (i : s.Idx) : select c a b i = Scalar.select (c i) (a i) (b i) := rfl
/-- This integer operation acts entry by entry. -/
theorem andi_at {w : Nat} (x y : IVec s w) (i : s.Idx) : andi x y i = IntOp.andi (x i) (y i) := rfl
/-- This integer operation acts entry by entry. -/
theorem addi_at {w : Nat} (x y : IVec s w) (i : s.Idx) : addi x y i = IntOp.addi (x i) (y i) := rfl
/-- This integer operation acts entry by entry. -/
theorem subi_at {w : Nat} (x y : IVec s w) (i : s.Idx) : subi x y i = IntOp.subi (x i) (y i) := rfl
/-- This integer operation acts entry by entry. -/
theorem shli_at {w : Nat} (x y : IVec s w) (i : s.Idx) : shli x y i = IntOp.shli .vector (x i) (y i) := rfl
/-- An integer comparison acts entry by entry. -/
theorem cmpi_at {w : Nat} (p : CmpIPredicate) (x y : IVec s w) (i : s.Idx) : cmpi p x y i = IntOp.cmpi p (x i) (y i) := rfl
/-- Reading integers as floats acts entry by entry. -/
theorem bitcast_at (x : IVec s (FTy.f32).bits) (i : s.Idx) : bitcastToFloat (F := Ideal) .f32 x i = Ideal.ofBits .f32 (x i) := rfl

/-- A sum along the rows of a matrix, at row `r`. -/
theorem rowSum_at {a b : ℕ} (x : FVec Ideal ⟨2, ![a, b]⟩ φ) (acc : BitVec φ.bits) (h : Shape.Reduces ⟨2, ![a, b]⟩ [1] ⟨1, ![a]⟩)
    (hφ : FKind.Formats φ) (hacc : acc = FKind.add.neutral φ hφ) (r : Fin a) :
    multiReduction .add [1] ⟨1, ![a]⟩ x acc h hφ hacc (ix1 r) = (∑ k : Fin b, (x (ix2 r k) : EReal)) := by
  rw [Ideal.multiReduction_add_single]
  exact Finset.sum_congr rfl fun k _ => congrArg x (lift_2 h r k)

/-- A maximum along the rows of a matrix, at row `r`. -/
theorem rowMax_at {a b : ℕ} (x : FVec Ideal ⟨2, ![a, b]⟩ φ) (acc : BitVec φ.bits) (h : Shape.Reduces ⟨2, ![a, b]⟩ [1] ⟨1, ![a]⟩)
    (hφ : FKind.Formats φ) (hacc : acc = FKind.maximumf.neutral φ hφ) (r : Fin a) :
    multiReduction .maximumf [1] ⟨1, ![a]⟩ x acc h hφ hacc (ix1 r)
      = (Finset.univ : Finset (Fin b)).fold max (Ideal.ofBits φ acc : EReal) fun k => x (ix2 r k) := by
  rw [Ideal.multiReduction_maximumf_single]
  exact Finset.fold_congr fun k _ => congrArg x (lift_2 h r k)

/-- A signed integer maximum along the rows of a matrix, at row `r`. -/
theorem rowMaxI_at {a b : ℕ} (x : IVec ⟨2, ![a, b]⟩ 32) (acc : BitVec 32) (h : Shape.Reduces ⟨2, ![a, b]⟩ [1] ⟨1, ![a]⟩)
    (hacc : acc = IKind.maxsi.neutral) (r : Fin a) :
    multiReductionI .maxsi [1] ⟨1, ![a]⟩ x acc h hacc (ix1 r)
      = (Finset.univ : Finset (Fin b)).fold (IKind.op .maxsi) acc fun k => x (ix2 r k) := by
  rw [multiReductionI_eq_fold, h.fold_filter_drop_single]
  exact Finset.fold_congr fun k _ => congrArg x (lift_2 h r k)

/-- A sum along the rows of a stack of matrices. -/
theorem rowSum3_at {m a b : ℕ} (x : FVec Ideal ⟨3, ![m, a, b]⟩ φ) (acc : BitVec φ.bits)
    (h : Shape.Reduces ⟨3, ![m, a, b]⟩ [2] ⟨2, ![m, a]⟩) (hφ : FKind.Formats φ) (hacc : acc = FKind.add.neutral φ hφ) (q : Fin m) (r : Fin a) :
    multiReduction .add [2] ⟨2, ![m, a]⟩ x acc h hφ hacc (ix2 q r) = (∑ k : Fin b, (x (ix3 q r k) : EReal)) := by
  rw [Ideal.multiReduction_add_single]
  exact Finset.sum_congr rfl fun k _ => congrArg x (lift_3 h q r k)

/-- A maximum along the rows of a stack of matrices. -/
theorem rowMax3_at {m a b : ℕ} (x : FVec Ideal ⟨3, ![m, a, b]⟩ φ) (acc : BitVec φ.bits)
    (h : Shape.Reduces ⟨3, ![m, a, b]⟩ [2] ⟨2, ![m, a]⟩) (hφ : FKind.Formats φ) (hacc : acc = FKind.maximumf.neutral φ hφ)
    (q : Fin m) (r : Fin a) :
    multiReduction .maximumf [2] ⟨2, ![m, a]⟩ x acc h hφ hacc (ix2 q r)
      = (Finset.univ : Finset (Fin b)).fold max (Ideal.ofBits φ acc : EReal) fun k => x (ix3 q r k) := by
  rw [Ideal.multiReduction_maximumf_single]
  exact Finset.fold_congr fun k _ => congrArg x (lift_3 h q r k)

end Ops

end Cert.Proof

end
-- ==== Proof.KernelTile.lean ====
module

public import proofs.«01_k».proof.Proof.Gen.KernelIdeal.Skeleton
public import proofs.«01_k».proof.Proof.Row
public import proofs.«01_k».proof.Proof.Layout
public import Idealize.ShloMosaic.Lib.MatmulPlain

/-!
  # What the kernel computes for 32 rows, and for 512 output columns

  The kernel quantises its 256 rows in eight tiles of 32 rows and multiplies them by the weights in twelve
  tiles of 512 columns. Each tile's operations are the same; they are named here once, and read at an index.
-/

@[expose] public section

noncomputable section

namespace Cert.Proof

open Cert.KernelIdeal Cert.KernelIdeal.Gen Idealize.ShloMosaic Idealize.ShloMosaic.ValueIdx
open scoped BigOperators

/-! ## The eight row tiles -/

/-- The codes of a tile of 32 rows `x`, with gain row `g` (one already added) and shift row `t`. -/
def tileCodes (g t : FVec Ideal S1x1536 .f32) (x : Vec Ideal S1x32x1536 .bf16) : FVec Ideal S1x32x1536 .fp8e4m3 :=
  k0_pay15 (k0_pay10 g t x) (k0_pay12 g t x) (k0_pay13 g t x) 0#32

/-- The scales of a tile of 32 rows, each written along 128 lanes. -/
def tileScales (g t : FVec Ideal S1x1536 .f32) (x : Vec Ideal S1x32x1536 .bf16) : FVec Ideal S32x128 .f32 :=
  k0_pay16 (k0_pay12 g t x) (k0_pay13 g t x) 0#32

/-- Every row's sum. -/
def sum32 (x : FVec Ideal S32x1536 .f32) : FVec Ideal S32 .f32 := fun i => (∑ k : Fin 1536, (x (ix2 (i 0) k) : EReal))

/-- Every row's maximum, from the start value `acc`. -/
def max32 (acc : BitVec 32) (x : FVec Ideal S32x1536 .f32) : FVec Ideal S32 .f32 :=
  fun i => (Finset.univ : Finset (Fin 1536)).fold max (Ideal.ofBits .f32 acc : EReal) fun k => x (ix2 (i 0) k)

/-- Every row's greatest integer, from the start value `acc`. -/
def maxI32 (acc : BitVec 32) (x : IVec S32x256 32) : IVec S32 32 :=
  fun i => (Finset.univ : Finset (Fin 256)).fold (IKind.op .maxsi) acc fun k => x (ix2 (i 0) k)

/-- The lane numbers. -/
def lanes : IVec S32x256 32 := fun i => BitVec.ofNat 32 (i 1).val

/-- The row sum at a row is the sum over its columns. -/
theorem sum32_at (x : FVec Ideal S32x1536 .f32) (r : Fin 32) : sum32 x (ix1 r) = (∑ k : Fin 1536, (x (ix2 r k) : EReal)) := rfl

/-- The row maximum at a row is the maximum over its columns, from the starting value. -/
theorem max32_at (acc : BitVec 32) (x : FVec Ideal S32x1536 .f32) (r : Fin 32) :
    max32 acc x (ix1 r) = (Finset.univ : Finset (Fin 1536)).fold max (Ideal.ofBits .f32 acc : EReal) fun k => x (ix2 r k) := rfl

/-- The integer row maximum at a row is the maximum over its lanes, from the starting value. -/
theorem maxI32_at (acc : BitVec 32) (x : IVec S32x256 32) (r : Fin 32) :
    maxI32 acc x (ix1 r) = (Finset.univ : Finset (Fin 256)).fold (IKind.op .maxsi) acc fun k => x (ix2 r k) := rfl

/-- The lane number at lane `k` is `k`. -/
theorem lanes_at (r : Fin 32) (k : Fin 256) : lanes (ix2 r k) = BitVec.ofNat 32 k.val := rfl

/-- The tile's three reductions and its lane numbers are these. -/
theorem sum32_eq {d : List (Fin S32x1536.rank)} (x : FVec Ideal S32x1536 .f32) (acc hr h h') (hd : d = [1]) :
    multiReduction .add d S32 x acc hr h h' = sum32 x := by
  subst hd
  funext i
  obtain ⟨r, rfl⟩ : ∃ r : Fin 32, i = ix1 r := ⟨i 0, eq_ix1 i⟩
  exact rowSum_at x acc _ h h' r

/-- The printed float maximum is `max32`. -/
theorem max32_eq {d : List (Fin S32x1536.rank)} (x : FVec Ideal S32x1536 .f32) (acc hr h h') (hd : d = [1]) :
    multiReduction .maximumf d S32 x acc hr h h' = max32 acc x := by
  subst hd
  funext i
  obtain ⟨r, rfl⟩ : ∃ r : Fin 32, i = ix1 r := ⟨i 0, eq_ix1 i⟩
  exact rowMax_at x acc _ h h' r

/-- The printed integer maximum is `maxI32`. -/
theorem maxI32_eq {d : List (Fin S32x256.rank)} (x : IVec S32x256 32) (acc hr h) (hd : d = [1]) :
    multiReductionI .maxsi d S32 x acc hr h = maxI32 acc x := by
  subst hd
  funext i
  obtain ⟨r, rfl⟩ : ∃ r : Fin 32, i = ix1 r := ⟨i 0, eq_ix1 i⟩
  exact rowMaxI_at x acc _ h r

/-- The printed lane numbers are `lanes`. -/
theorem lanes_eq {d : List (Fin S32x256.rank)} (h) (hd : d = [1]) : iota .tc S32x256 32 d h = lanes := by
  subst hd
  funext i
  show BitVec.ofNat 32 (0 * 256 + (i 1).val) = BitVec.ofNat 32 (i 1).val
  rw [Nat.zero_mul, Nat.zero_add]

/-- The gain row and the shift row read at a column. -/
theorem gain_at (v : Vec Ideal S1x1x1536 .bf16) (u : Fin 1) (j : Fin 1536) :
    k0_pay2 v (ix2 u j) = (Ideal.ofBits .f32 0x3F800000#32 + v (ix3 (0 : Fin 1) u j) : EReal) := by
  unfold k0_pay2
  simp only [addf_at, broadcast_at, extf_at, ofBits_at, shapeCast_1ab_ab_apply]

/-- The shift vector at a column is the entry of the argument. -/
theorem shift_at (v : Vec Ideal S1x1x1536 .bf16) (u : Fin 1) (j : Fin 1536) :
    k0_pay3 v (ix2 u j) = v (ix3 (0 : Fin 1) u j) := by
  unfold k0_pay3
  simp only [extf_at, shapeCast_1ab_ab_apply]

/-- Row `r` of the tile, modulated. -/
theorem tileModulated_at (gv tv : Vec Ideal S1x1x1536 .bf16) (x : Vec Ideal S1x32x1536 .bf16) (r : Fin 32) (j : Fin 1536) :
    k0_pay10 (k0_pay2 gv) (k0_pay3 tv) x (ix2 r j)
      = modulated (fun k => x (ix3 (0 : Fin 1) r k)) (fun k => gv (ix3 (0 : Fin 1) (0 : Fin 1) k))
          (fun k => tv (ix3 (0 : Fin 1) (0 : Fin 1) k)) j := by
  unfold k0_pay10
  erw [sum32_eq (hd := by rfl), sum32_eq (hd := by rfl)]
  simp only [addf_at, mulf_at, subf_at, divf_at, rsqrt_at, broadcast_at, extf_at, ofBits_at, broadcastTo_a1_ab_apply,
    broadcastTo_1b_ab_apply, shapeCast_a_a1_apply, shapeCast_1ab_ab_apply, sum32_at, gain_at, shift_at]
  rfl

/-- The exponent field the tile finds for row `r`. -/
theorem tileField_at (gv tv : Vec Ideal S1x1x1536 .bf16) (x : Vec Ideal S1x32x1536 .bf16) (r : Fin 32) (u : Fin 1) :
    k0_pay11 (k0_pay2 gv) (k0_pay3 tv) x (ix2 r u)
      = field (mag (modulated (fun k => x (ix3 (0 : Fin 1) r k)) (fun k => gv (ix3 (0 : Fin 1) (0 : Fin 1) k))
          (fun k => tv (ix3 (0 : Fin 1) (0 : Fin 1) k)))) := by
  unfold k0_pay11
  erw [max32_eq (hd := by rfl), maxI32_eq (hd := by rfl), lanes_eq (hd := by rfl)]
  simp only [mulf_at, absf_at, broadcast_at, ofBits_at, broadcastTo_a1_ab_apply, shapeCast_a_a1_apply, max32_at, maxI32_at, lanes_at,
    tileModulated_at, select_at, cmpf_at, bitcast_at, shli_at]
  rfl

/-- Row `r`'s codes. -/
theorem tileCodes_at (gv tv : Vec Ideal S1x1x1536 .bf16) (x : Vec Ideal S1x32x1536 .bf16) (u : Fin 1) (r : Fin 32) (j : Fin 1536) :
    tileCodes (k0_pay2 gv) (k0_pay3 tv) x (ix3 u r j)
      = krowCode (fun k => x (ix3 (0 : Fin 1) r k)) (fun k => gv (ix3 (0 : Fin 1) (0 : Fin 1) k))
          (fun k => tv (ix3 (0 : Fin 1) (0 : Fin 1) k)) j := by
  unfold tileCodes k0_pay15 k0_pay14 k0_pay12 k0_pay13
  simp only [shapeCast_ab_1ab_apply, truncf_at, minimumf_at, maximumf_at, mulf_at, broadcast_at, ofBits_at, broadcastTo_a1_ab_apply,
    tileModulated_at, tileField_at, bitcast_at, shli_at, subi_at, select_at, andi_at, cmpi_at]
  rfl

/-- Row `r`'s scale, on every lane. -/
theorem tileScales_at (gv tv : Vec Ideal S1x1x1536 .bf16) (x : Vec Ideal S1x32x1536 .bf16) (r : Fin 32) (l : Fin 128) :
    tileScales (k0_pay2 gv) (k0_pay3 tv) x (ix2 r l)
      = krowScale (fun k => x (ix3 (0 : Fin 1) r k)) (fun k => gv (ix3 (0 : Fin 1) (0 : Fin 1) k))
          (fun k => tv (ix3 (0 : Fin 1) (0 : Fin 1) k)) := by
  unfold tileScales k0_pay16 k0_pay14 k0_pay12 k0_pay13
  simp only [shapeCast_same, broadcast_at, broadcastTo_a1_ab_apply, tileField_at, bitcast_at, shli_at, subi_at, addi_at, select_at,
    andi_at, cmpi_at]
  rfl

/-! ## The twelve column tiles -/

/-- A tile of 512 columns of the result: codes `q` by weights `w`, times the rows' scales (column `0` of `S`), times the
    weights' scales, plus the bias, times the gate. -/
def tileOut (S : Vec Ideal S256x128 .f32) (q : Vec Ideal S1x256x1536 .fp8e4m3) (w : Vec Ideal S1536x512 .fp8e4m3)
    (b : Vec Ideal S1x512 .bf16) (g : Vec Ideal S1x1x512 .bf16) (ws : Vec Ideal S1x512 .f32) : FVec Ideal S1x256x512 .bf16 :=
  k0_pay62 S q w b g ws

/-- The scale column read back is lane 0 of the scratch. -/
theorem lane0_at (S : Vec Ideal S256x128 .f32) (r : Fin 256) (u : Fin 1) : k0_pay60 S (ix2 r u) = S (ix2 r (0 : Fin 128)) := by
  unfold k0_pay60
  refine extractStridedSlice_apply _ _ _ _ _ fun a => ?_
  match a with
  | ⟨0, _⟩ => show r.val = 0 + r.val; omega
  | ⟨1, _⟩ => show 0 = 0 + u.val; omega

/-- The rows' scales written as one row. -/
theorem scaleRow_at (S : Vec Ideal S256x128 .f32) (u v : Fin 1) (r : Fin 256) :
    k0_pay59 (k0_pay58 S) (ix3 u v r) = S (ix2 r (0 : Fin 128)) := by
  unfold k0_pay59 k0_pay58
  rw [shapeCast_ab_1ab_apply]
  refine (extractStridedSlice_apply _ _ _ _ (ix2 (0 : Fin 128) r) fun a => ?_).trans (transpose_ix2_apply _ _ _ _)
  match a with
  | ⟨0, _⟩ => show 0 = 0 + v.val; omega
  | ⟨1, _⟩ => show r.val = 0 + r.val; omega

/-- The product of the codes and the weights, at a row and a column. -/
theorem dot_at (q : FVec Ideal S256x1536 .fp8e4m3) (w : FVec Ideal S1536x512 .fp8e4m3) (r : Fin 256) (n : Fin 512) :
    matmul dot_S256x1536_S1536x512_S256x512_1_0_0_1_n_n none q w (constant S256x512 .f32 0x00000000#32) (ix2 r n)
      = (∑ k : Fin 1536, (q (ix2 r k) : EReal) * w (ix2 k n)) := by
  refine (Ideal.matmul_plain_apply (M := 256) (K := 1536) (N := 512) none q w (constant S256x512 .f32 0x00000000#32) r n).trans ?_
  exact (congrArg (· + _) (show (constant S256x512 .f32 0x00000000#32 (ix2 r n) : Ideal .f32) = (0 : EReal) from Ideal.ofBits_zero_f32)).trans (zero_add _)

/-- One output entry: the product of the codes with the weights, rescaled, shifted by the bias and gated. -/
theorem tileOut_at (S : Vec Ideal S256x128 .f32) (q : Vec Ideal S1x256x1536 .fp8e4m3) (w : Vec Ideal S1536x512 .fp8e4m3)
    (b : Vec Ideal S1x512 .bf16) (g : Vec Ideal S1x1x512 .bf16) (ws : Vec Ideal S1x512 .f32) (u : Fin 1) (r : Fin 256) (n : Fin 512) :
    tileOut S q w b g ws (ix3 u r n)
      = ((((∑ k : Fin 1536, (q (ix3 (0 : Fin 1) r k) : EReal) * w (ix2 k n)) * S (ix2 r (0 : Fin 128))) * ws (ix2 (0 : Fin 1) n)
          + b (ix2 (0 : Fin 1) n)) * g (ix3 (0 : Fin 1) (0 : Fin 1) n) : EReal) := by
  unfold tileOut k0_pay62 k0_pay61
  simp only [shapeCast_ab_1ab_apply, truncf_at, extf_at, mulf_at, addf_at, broadcastTo_a1_ab_apply, broadcastTo_1b_ab_apply,
    shapeCast_1ab_ab_apply, shapeCast_same, lane0_at, dot_at]

end Cert.Proof

end
-- ==== Proof.KernelBlock.lean ====
module

public import proofs.«01_k».proof.Proof.Gen.KernelIdeal.Frame
public import proofs.«01_k».proof.Proof.KernelTile
public import Idealize.ShloMosaic.Lib.WholeRead
public import Idealize.ShloMosaic.Lib.Pipeline.Value
public import Idealize.ShloMosaic.Lib.Pipeline.ValueKit.Tiles

/-! # What one grid point leaves in its three output blocks

The body of the kernel writes the codes of its block in eight tiles of 32 rows and its result in twelve tiles of 512
columns. Every row tile holds `tileCodes`, every column tile `tileOut`, so the blocks are one function of the
point's input blocks. -/

@[expose] public section

noncomputable section

namespace Cert.Proof

open Cert.KernelIdeal Cert.KernelIdeal.Gen Idealize.ShloMosaic Idealize.ShloMosaic.ValueIdx
open scoped BigOperators

/-- The codes of a block: `x0` the rows, `x1` the shift row, `x2` the scale row. -/
def blockCodes (x0 : Vec Ideal S1x256x1536 .bf16) (x1 x2 : Vec Ideal S1x1x1536 .bf16) : Vec Ideal S1x256x1536 .fp8e4m3 :=
  fun i => krowCode (fun k => x0 (ix3 (0 : Fin 1) (i 1) k)) (fun k => x2 (ix3 (0 : Fin 1) (0 : Fin 1) k))
    (fun k => x1 (ix3 (0 : Fin 1) (0 : Fin 1) k)) (i 2)

/-- The scale of row `r` of a block. -/
def blockScale (x0 : Vec Ideal S1x256x1536 .bf16) (x1 x2 : Vec Ideal S1x1x1536 .bf16) (r : Fin 256) : EReal :=
  krowScale (fun k => x0 (ix3 (0 : Fin 1) r k)) (fun k => x2 (ix3 (0 : Fin 1) (0 : Fin 1) k))
    (fun k => x1 (ix3 (0 : Fin 1) (0 : Fin 1) k))

/-- The scratch buffer once the rows are done: every row's scale on all of its lanes. -/
def blockScratch (x0 : Vec Ideal S1x256x1536 .bf16) (x1 x2 : Vec Ideal S1x1x1536 .bf16) : Vec Ideal S256x128 .f32 :=
  fun i => blockScale x0 x1 x2 (i 0)

/-- The scales of a block as one row. -/
def blockRow (x0 : Vec Ideal S1x256x1536 .bf16) (x1 x2 : Vec Ideal S1x1x1536 .bf16) : Vec Ideal S1x1x256 .f32 :=
  fun i => blockScale x0 x1 x2 (i 2)

/-- The result of a block: `x3` the gate row, `x4` the weights' codes, `x5` their scales, `x6` the bias. -/
def blockOut (x0 : Vec Ideal S1x256x1536 .bf16) (x1 x2 : Vec Ideal S1x1x1536 .bf16) (x3 : Vec Ideal S1x1x6144 .bf16)
    (x4 : Vec Ideal S1536x6144 .fp8e4m3) (x5 : Vec Ideal S1x6144 .f32) (x6 : Vec Ideal S1x6144 .bf16) : Vec Ideal S1x256x6144 .bf16 :=
  fun i => ((((∑ k : Fin 1536, (blockCodes x0 x1 x2 (ix3 (0 : Fin 1) (i 1) k) : EReal) * x4 (ix2 k (i 2))) * blockScale x0 x1 x2 (i 1))
    * x5 (ix2 (0 : Fin 1) (i 2)) + x6 (ix2 (0 : Fin 1) (i 2))) * x3 (ix3 (0 : Fin 1) (0 : Fin 1) (i 2)) : EReal)

/-- Row tile `k` begins at row `32 k`. -/
theorem rowInb (k : Fin 8) : ∀ a, (![0, 32 * k.val, 0] : Fin 3 → ℕ) a + S1x32x1536.size a ≤ S1x256x1536.size a
  | 0 => show 0 + 1 ≤ 1 by omega
  | 1 => show 32 * k.val + 32 ≤ 256 by omega
  | 2 => show 0 + 1536 ≤ 1536 by omega

/-- The `k`-th group of 32 rows lies inside the scratch of scales. -/
theorem scratchInb (k : Fin 8) : ∀ a, (![32 * k.val, 0] : Fin 2 → ℕ) a + S32x128.size a ≤ S256x128.size a
  | 0 => show 32 * k.val + 32 ≤ 256 by omega
  | 1 => show 0 + 128 ≤ 128 by omega

/-- Column tile `n` begins at column `512 n`. -/
theorem colInb (n : Fin 12) : ∀ a, (![0, 0, 512 * n.val] : Fin 3 → ℕ) a + S1x256x512.size a ≤ S1x256x6144.size a
  | 0 => show 0 + 1 ≤ 1 by omega
  | 1 => show 0 + 256 ≤ 256 by omega
  | 2 => show 512 * n.val + 512 ≤ 6144 by omega

/-- The `n`-th group of 512 columns lies inside the weights. -/
theorem weightInb (n : Fin 12) : ∀ a, (![0, 512 * n.val] : Fin 2 → ℕ) a + S1536x512.size a ≤ S1536x6144.size a
  | 0 => show 0 + 1536 ≤ 1536 by omega
  | 1 => show 512 * n.val + 512 ≤ 6144 by omega

/-- The `n`-th group of 512 columns lies inside a one-row array. -/
theorem lineInb (n : Fin 12) : ∀ a, (![0, 512 * n.val] : Fin 2 → ℕ) a + S1x512.size a ≤ S1x6144.size a
  | 0 => show 0 + 1 ≤ 1 by omega
  | 1 => show 512 * n.val + 512 ≤ 6144 by omega

/-- The `n`-th group of 512 columns lies inside the gate. -/
theorem gateInb (n : Fin 12) : ∀ a, (![0, 0, 512 * n.val] : Fin 3 → ℕ) a + S1x1x512.size a ≤ S1x1x6144.size a
  | 0 => show 0 + 1 ≤ 1 by omega
  | 1 => show 0 + 1 ≤ 1 by omega
  | 2 => show 512 * n.val + 512 ≤ 6144 by omega

/-- A load of a rectangle of a buffer that holds `x`, at a place. -/
theorem load_at {s : Shape} {e : EltTy} (arg : Memref sig .tc .vmem s e) (harg : arg.IsWhole) (x : Vec Ideal s e)
    (off size : Fin s.rank → ℕ) (inb : ∀ a, off a + size a ≤ s.size a) (y : (Rect.unit (s := s) off size inb).shape.Idx) (i : s.Idx)
    (h : ∀ a, (i a).val = off a + (y a).val) :
    View.readAt (Elt Ideal) arg.view (Rect.unit (s := s) off size inb).toLoadRect (harg.unread x) y = x i :=
  (harg.readAt_unread x _ y).trans
    (congrArg x (funext fun a => Fin.ext ((Rect.idx_unit_val off size inb y a).trans (h a).symm)))

/-- The place in a buffer of a place of a rectangle. -/
theorem emb_eq {s : Shape} (off size : Fin s.rank → ℕ) (inb : ∀ a, off a + size a ≤ s.size a)
    (y : (Rect.unit (s := s) off size inb).shape.Idx) (i : s.Idx) (h : ∀ a, (i a).val = off a + (y a).val) :
    (Rect.unit (s := s) off size inb).emb y = i :=
  funext fun a => Fin.ext ((Rect.idx_unit_val off size inb y a).trans (h a).symm)

section
variable (arg1 : Memref sig .tc .vmem S1x256x1536 .bf16) (harg1 : arg1.IsWhole)
  (arg2 : Memref sig .tc .vmem S1x1x1536 .bf16) (harg2 : arg2.IsWhole)
  (arg3 : Memref sig .tc .vmem S1x1x1536 .bf16) (harg3 : arg3.IsWhole)
  (arg4 : Memref sig .tc .vmem S1x1x6144 .bf16) (harg4 : arg4.IsWhole)
  (arg5 : Memref sig .tc .vmem S1536x6144 .fp8e4m3) (harg5 : arg5.IsWhole)
  (arg6 : Memref sig .tc .vmem S1x6144 .f32) (harg6 : arg6.IsWhole)
  (arg7 : Memref sig .tc .vmem S1x6144 .bf16) (harg7 : arg7.IsWhole)
  (arg8 : Memref sig .tc .vmem S1x256x6144 .bf16) (harg8 : arg8.IsWhole)
  (arg9 : Memref sig .tc .vmem S1x256x1536 .fp8e4m3) (harg9 : arg9.IsWhole)
  (arg10 : Memref sig .tc .vmem S1x1x256 .f32) (harg10 : arg10.IsWhole)
  (arg11 : Memref sig .tc .vmem S256x128 .f32) (harg11 : arg11.IsWhole)
  (x0 : Vec Ideal S1x256x1536 .bf16) (x1 x2 : Vec Ideal S1x1x1536 .bf16) (x3 : Vec Ideal S1x1x6144 .bf16)
  (x4 : Vec Ideal S1536x6144 .fp8e4m3) (x5 : Vec Ideal S1x6144 .f32) (x6 : Vec Ideal S1x6144 .bf16)

/-- The load of row tile `k`. -/
def rowsOf (k : Fin 8) : Vec Ideal S1x32x1536 .bf16 :=
  View.readAt (Elt Ideal) arg1.view (Rect.unit (s := S1x256x1536) ![0, 32 * k.val, 0] S1x32x1536.size (rowInb k)).toLoadRect (harg1.unread x0)

/-- Row `r` of the `k`-th group of 32 rows is the row `32 * k + r` of the block. -/
theorem rowsOf_at (k : Fin 8) (u : Fin 1) (r : Fin 32) (j : Fin 1536) (r' : Fin 256) (h : r'.val = 32 * k.val + r.val) :
    rowsOf arg1 harg1 x0 k (ix3 u r j) = x0 (ix3 (0 : Fin 1) r' j) :=
  load_at arg1 harg1 x0 _ _ _ _ _ fun
    | ⟨0, _⟩ => show 0 = 0 + u.val by omega
    | ⟨1, _⟩ => h
    | ⟨2, _⟩ => show j.val = 0 + j.val by omega

/-- The load of a whole modulation row. -/
def rowOf (arg : Memref sig .tc .vmem S1x1x1536 .bf16) (harg : arg.IsWhole) (x : Vec Ideal S1x1x1536 .bf16) : Vec Ideal S1x1x1536 .bf16 :=
  View.readAt (Elt Ideal) arg.view (Rect.unit (s := S1x1x1536) ![0, 0, 0] S1x1x1536.size inb_S1x1x1536_S1x1x1536_0_0_0).toLoadRect (harg.unread x)

/-- A whole one-row array read in the kernel is the row it holds. -/
theorem rowOf_eq (arg : Memref sig .tc .vmem S1x1x1536 .bf16) (harg : arg.IsWhole) (x : Vec Ideal S1x1x1536 .bf16) :
    rowOf arg harg x = x :=
  funext fun i => load_at arg harg x _ _ _ _ _ fun
    | ⟨0, _⟩ => (Nat.zero_add _).symm
    | ⟨1, _⟩ => (Nat.zero_add _).symm
    | ⟨2, _⟩ => (Nat.zero_add _).symm

/-- The codes that row tile `k` stores. -/
def codesPiece (k : Fin 8) : View.Piece (Elt Ideal) S1x256x1536 .fp8e4m3 :=
  ⟨Rect.unit (s := S1x256x1536) ![0, 32 * k.val, 0] S1x32x1536.size (rowInb k),
    tileCodes (k0_pay2 (rowOf arg3 harg3 x2)) (k0_pay3 (rowOf arg2 harg2 x1)) (rowsOf arg1 harg1 x0 k)⟩

/-- The scales that row tile `k` stores. -/
def scalesPiece (k : Fin 8) : View.Piece (Elt Ideal) S256x128 .f32 :=
  ⟨Rect.unit (s := S256x128) ![32 * k.val, 0] S32x128.size (scratchInb k),
    tileScales (k0_pay2 (rowOf arg3 harg3 x2)) (k0_pay3 (rowOf arg2 harg2 x1)) (rowsOf arg1 harg1 x0 k)⟩

/-- The stores of codes are these eight tiles, the last first. -/
theorem codesPieces_eq (c : Dev nD) : kernelRun0_A.sl.H8_8 c arg1 harg1 arg2 harg2 arg3 harg3 x0 x1 x2
    = ([7, 6, 5, 4, 3, 2, 1, 0] : List (Fin 8)).map (codesPiece arg1 harg1 arg2 harg2 arg3 harg3 x0 x1 x2) := rfl

/-- The stores of scales are these eight tiles, the last first. -/
theorem scalesPieces_eq (c : Dev nD) : kernelRun0_A.sl.HS0_8 c arg1 harg1 arg2 harg2 arg3 harg3 x0 x1 x2
    = ([7, 6, 5, 4, 3, 2, 1, 0] : List (Fin 8)).map (scalesPiece arg1 harg1 arg2 harg2 arg3 harg3 x0 x1 x2) := rfl

/-- Each stored tile of codes is its part of the block's codes. -/
theorem codesPieces_at (c : Dev nD) : ∀ p ∈ kernelRun0_A.sl.H8_8 c arg1 harg1 arg2 harg2 arg3 harg3 x0 x1 x2,
    ∀ x : p.1.shape.Idx, p.2 x = blockCodes x0 x1 x2 (p.1.emb x) := by
  rw [codesPieces_eq]
  intro p hp
  obtain ⟨k, -, rfl⟩ := List.mem_map.mp hp
  intro (x : S1x32x1536.Idx)
  obtain ⟨u, r, j, rfl⟩ : ∃ (u : Fin 1) (r : Fin 32) (j : Fin 1536), x = ix3 u r j := ⟨x 0, x 1, x 2, eq_ix3 x⟩
  have hr : 32 * k.val + r.val < 256 := by omega
  have e : (codesPiece arg1 harg1 arg2 harg2 arg3 harg3 x0 x1 x2 k).1.emb (ix3 u r j) = ix3 u (⟨32 * k.val + r.val, hr⟩ : Fin 256) j :=
    emb_eq _ _ (rowInb k) _ _ fun
      | ⟨0, _⟩ => (Nat.zero_add _).symm
      | ⟨1, _⟩ => rfl
      | ⟨2, _⟩ => (Nat.zero_add _).symm
  refine Eq.trans ?_ (congrArg (blockCodes x0 x1 x2) e.symm)
  refine (tileCodes_at _ _ _ u r j).trans ?_
  rw [rowOf_eq, rowOf_eq]
  show krowCode (fun k' => rowsOf arg1 harg1 x0 k (ix3 (0 : Fin 1) r k')) _ _ j = krowCode _ _ _ j
  exact congrArg (fun f => krowCode f _ _ j) (funext fun k' => rowsOf_at arg1 harg1 x0 k 0 r k' ⟨32 * k.val + r.val, hr⟩ rfl)

/-- Each stored tile of scales holds the block's scales, every row's on all of its lanes. -/
theorem scalesPieces_at (c : Dev nD) : ∀ p ∈ kernelRun0_A.sl.HS0_8 c arg1 harg1 arg2 harg2 arg3 harg3 x0 x1 x2,
    ∀ x : p.1.shape.Idx, p.2 x = blockScratch x0 x1 x2 (p.1.emb x) := by
  rw [scalesPieces_eq]
  intro p hp
  obtain ⟨k, -, rfl⟩ := List.mem_map.mp hp
  intro (x : S32x128.Idx)
  obtain ⟨r, l, rfl⟩ : ∃ (r : Fin 32) (l : Fin 128), x = ix2 r l := ⟨x 0, x 1, eq_ix2 x⟩
  have hr : 32 * k.val + r.val < 256 := by omega
  have e : (scalesPiece arg1 harg1 arg2 harg2 arg3 harg3 x0 x1 x2 k).1.emb (ix2 r l) 0 = (⟨32 * k.val + r.val, hr⟩ : Fin 256) :=
    Fin.ext (Rect.idx_unit_val _ _ (scratchInb k) _ 0)
  refine Eq.trans ?_ (congrArg (blockScale x0 x1 x2) e.symm)
  refine (tileScales_at _ _ _ r l).trans ?_
  rw [rowOf_eq, rowOf_eq]
  show krowScale (fun k' => rowsOf arg1 harg1 x0 k (ix3 (0 : Fin 1) r k')) _ _ = krowScale _ _ _
  exact congrArg (fun f => krowScale f _ _) (funext fun k' => rowsOf_at arg1 harg1 x0 k 0 r k' ⟨32 * k.val + r.val, hr⟩ rfl)

/-! ## What the body reads back -/

/-- The codes read back from the codes' block. -/
theorem codesBack (c : Dev nD) : kernelRun0_A.sl.v591 c arg1 harg1 arg2 harg2 arg3 harg3 arg9 x0 x1 x2 = blockCodes x0 x1 x2 := by
  show arg9.view.readCov (kernelRun0_A.sl.H8_8 c arg1 harg1 arg2 harg2 arg3 harg3 x0 x1 x2)
    (Rect.unit (s := S1x256x1536) ![0, 0, 0] S1x256x1536.size inb_S1x256x1536_S1x256x1536_0_0_0).toLoadRect = _
  rw [View.readCov_eq_canon']
  funext (j : S1x256x1536.Idx)
  have e : (Rect.unit (s := S1x256x1536) ![0, 0, 0] S1x256x1536.size inb_S1x256x1536_S1x256x1536_0_0_0).toLoadRect.idx j = j :=
    emb_eq _ _ inb_S1x256x1536_S1x256x1536_0_0_0 _ _ fun
      | ⟨0, _⟩ => (Nat.zero_add _).symm
      | ⟨1, _⟩ => (Nat.zero_add _).symm
      | ⟨2, _⟩ => (Nat.zero_add _).symm
  rw [e]
  exact View.canon_apply_of_pieces (blockCodes x0 x1 x2) _ (codesPieces_at arg1 harg1 arg2 harg2 arg3 harg3 x0 x1 x2 c) j
    (View.cover_of_tiledL (kernelRun0_A.sl.H8_8 c arg1 harg1 arg2 harg2 arg3 harg3 x0 x1 x2) S1x32x1536.size (by sl_kernel_rfl) j)

/-- The scales read back from the scratch buffer. -/
theorem scalesBack (c : Dev nD) : kernelRun0_A.sl.v584 c arg1 harg1 arg2 harg2 arg3 harg3 arg11 x0 x1 x2
    = blockScratch x0 x1 x2 := by
  show arg11.view.readCov (kernelRun0_A.sl.HS0_8 c arg1 harg1 arg2 harg2 arg3 harg3 x0 x1 x2)
    (Rect.unit (s := S256x128) ![0, 0] S256x128.size inb_S256x128_S256x128_0_0).toLoadRect = _
  rw [View.readCov_eq_canon']
  funext (j : S256x128.Idx)
  have e : (Rect.unit (s := S256x128) ![0, 0] S256x128.size inb_S256x128_S256x128_0_0).toLoadRect.idx j = j :=
    emb_eq _ _ inb_S256x128_S256x128_0_0 _ _ fun
      | ⟨0, _⟩ => (Nat.zero_add _).symm
      | ⟨1, _⟩ => (Nat.zero_add _).symm
  rw [e]
  exact View.canon_apply_of_pieces (blockScratch x0 x1 x2) _ (scalesPieces_at arg1 harg1 arg2 harg2 arg3 harg3 x0 x1 x2 c) j
    (View.cover_of_tiledL (kernelRun0_A.sl.HS0_8 c arg1 harg1 arg2 harg2 arg3 harg3 x0 x1 x2) S32x128.size (by sl_kernel_rfl) j)

/-- What column tile `n` stores. -/
def outPiece (c : Dev nD) (n : Fin 12) : View.Piece (Elt Ideal) S1x256x6144 .bf16 :=
  ⟨Rect.unit (s := S1x256x6144) ![0, 0, 512 * n.val] S1x256x512.size (colInb n),
    tileOut (kernelRun0_A.sl.v584 c arg1 harg1 arg2 harg2 arg3 harg3 arg11 x0 x1 x2)
      (kernelRun0_A.sl.v591 c arg1 harg1 arg2 harg2 arg3 harg3 arg9 x0 x1 x2)
      (View.readAt (Elt Ideal) arg5.view (Rect.unit (s := S1536x6144) ![0, 512 * n.val] S1536x512.size (weightInb n)).toLoadRect (harg5.unread x4))
      (View.readAt (Elt Ideal) arg7.view (Rect.unit (s := S1x6144) ![0, 512 * n.val] S1x512.size (lineInb n)).toLoadRect (harg7.unread x6))
      (View.readAt (Elt Ideal) arg4.view (Rect.unit (s := S1x1x6144) ![0, 0, 512 * n.val] S1x1x512.size (gateInb n)).toLoadRect (harg4.unread x3))
      (View.readAt (Elt Ideal) arg6.view (Rect.unit (s := S1x6144) ![0, 512 * n.val] S1x512.size (lineInb n)).toLoadRect (harg6.unread x5))⟩

/-- The stores of the result are these twelve tiles, the last first. -/
theorem outPieces_eq (c : Dev nD) (i : grid0.Coords) :
    (kernelRun0_A c i arg1 harg1 arg2 harg2 arg3 harg3 arg4 harg4 arg5 harg5 arg6 harg6 arg7 harg7 arg8 harg8 arg9 harg9 arg10 harg10
      arg11 harg11 x0 x1 x2 x3 x4 x5 x6).1
    = ([11, 10, 9, 8, 7, 6, 5, 4, 3, 2, 1, 0] : List (Fin 12)).map (outPiece arg1 harg1 arg2 harg2 arg3 harg3 arg4 harg4 arg5 harg5
        arg6 harg6 arg7 harg7 arg9 arg11 x0 x1 x2 x3 x4 x5 x6 c) := rfl

/-- Each stored tile of the result is its part of the block's result. -/
theorem outPieces_at (c : Dev nD) (i : grid0.Coords) :
    ∀ p ∈ (kernelRun0_A c i arg1 harg1 arg2 harg2 arg3 harg3 arg4 harg4 arg5 harg5 arg6 harg6 arg7 harg7 arg8 harg8 arg9 harg9 arg10
      harg10 arg11 harg11 x0 x1 x2 x3 x4 x5 x6).1,
    ∀ x : p.1.shape.Idx, p.2 x = blockOut x0 x1 x2 x3 x4 x5 x6 (p.1.emb x) := by
  rw [outPieces_eq]
  intro p hp
  obtain ⟨n, -, rfl⟩ := List.mem_map.mp hp
  intro (x : S1x256x512.Idx)
  obtain ⟨u, r, j, rfl⟩ : ∃ (u : Fin 1) (r : Fin 256) (j : Fin 512), x = ix3 u r j := ⟨x 0, x 1, x 2, eq_ix3 x⟩
  have hj : 512 * n.val + j.val < 6144 := by omega
  have e : (outPiece arg1 harg1 arg2 harg2 arg3 harg3 arg4 harg4 arg5 harg5 arg6 harg6 arg7 harg7 arg9 arg11 x0 x1 x2 x3 x4 x5 x6
      c n).1.emb (ix3 u r j) = ix3 u r (⟨512 * n.val + j.val, hj⟩ : Fin 6144) :=
    emb_eq _ _ (colInb n) _ _ fun
      | ⟨0, _⟩ => (Nat.zero_add _).symm
      | ⟨1, _⟩ => (Nat.zero_add _).symm
      | ⟨2, _⟩ => rfl
  refine Eq.trans ?_ (congrArg (blockOut x0 x1 x2 x3 x4 x5 x6) e.symm)
  refine (tileOut_at _ _ _ _ _ _ u r j).trans ?_
  rw [codesBack, scalesBack]
  have hw : ∀ k : Fin 1536, View.readAt (Elt Ideal) arg5.view
      (Rect.unit (s := S1536x6144) ![0, 512 * n.val] S1536x512.size (weightInb n)).toLoadRect (harg5.unread x4) (ix2 k j)
      = x4 (ix2 k (⟨512 * n.val + j.val, hj⟩ : Fin 6144)) := fun k => load_at arg5 harg5 x4 _ _ _ _ _ fun
    | ⟨0, _⟩ => (Nat.zero_add _).symm
    | ⟨1, _⟩ => rfl
  have hb : View.readAt (Elt Ideal) arg7.view
      (Rect.unit (s := S1x6144) ![0, 512 * n.val] S1x512.size (lineInb n)).toLoadRect (harg7.unread x6) (ix2 (0 : Fin 1) j)
      = x6 (ix2 (0 : Fin 1) (⟨512 * n.val + j.val, hj⟩ : Fin 6144)) := load_at arg7 harg7 x6 _ _ _ _ _ fun
    | ⟨0, _⟩ => rfl
    | ⟨1, _⟩ => rfl
  have hs : View.readAt (Elt Ideal) arg6.view
      (Rect.unit (s := S1x6144) ![0, 512 * n.val] S1x512.size (lineInb n)).toLoadRect (harg6.unread x5) (ix2 (0 : Fin 1) j)
      = x5 (ix2 (0 : Fin 1) (⟨512 * n.val + j.val, hj⟩ : Fin 6144)) := load_at arg6 harg6 x5 _ _ _ _ _ fun
    | ⟨0, _⟩ => rfl
    | ⟨1, _⟩ => rfl
  have hg : View.readAt (Elt Ideal) arg4.view
      (Rect.unit (s := S1x1x6144) ![0, 0, 512 * n.val] S1x1x512.size (gateInb n)).toLoadRect (harg4.unread x3) (ix3 (0 : Fin 1) (0 : Fin 1) j)
      = x3 (ix3 (0 : Fin 1) (0 : Fin 1) (⟨512 * n.val + j.val, hj⟩ : Fin 6144)) := load_at arg4 harg4 x3 _ _ _ _ _ fun
    | ⟨0, _⟩ => rfl
    | ⟨1, _⟩ => rfl
    | ⟨2, _⟩ => rfl
  rw [hb, hs, hg, Finset.sum_congr rfl fun k _ => congrArg (_ * ·) (hw k)]
  rfl

/-- The result's block after the point. -/
theorem out7_eq (c : Dev nD) (i : grid0.Coords) :
    out0_A_7 c i arg1 harg1 arg2 harg2 arg3 harg3 arg4 harg4 arg5 harg5 arg6 harg6 arg7 harg7 arg8 harg8 arg9 harg9 arg10
      harg10 arg11 harg11 x0 x1 x2 x3 x4 x5 x6 = blockOut x0 x1 x2 x3 x4 x5 x6 :=
  funext fun y => View.read_writes_apply_of_pieces VO0_7 _ (blockOut x0 x1 x2 x3 x4 x5 x6) _
    (outPieces_at arg1 harg1 arg2 harg2 arg3 harg3 arg4 harg4 arg5 harg5 arg6 harg6 arg7 harg7 arg8 harg8 arg9 harg9 arg10
      harg10 arg11 harg11 x0 x1 x2 x3 x4 x5 x6 c i) y
    (cover0_A_7 c i arg1 harg1 arg2 harg2 arg3 harg3 arg4 harg4 arg5 harg5 arg6 harg6 arg7 harg7 arg8 harg8 arg9 harg9 arg10
      harg10 arg11 harg11 x0 x1 x2 x3 x4 x5 x6 y)

/-- The codes' block after the point. -/
theorem out8_eq (c : Dev nD) (i : grid0.Coords) :
    out0_A_8 c i arg1 harg1 arg2 harg2 arg3 harg3 arg4 harg4 arg5 harg5 arg6 harg6 arg7 harg7 arg8 harg8 arg9 harg9 arg10
      harg10 arg11 harg11 x0 x1 x2 x3 x4 x5 x6 = blockCodes x0 x1 x2 :=
  funext fun y => View.read_writes_apply_of_pieces VO0_8 _ (blockCodes x0 x1 x2) _
    (codesPieces_at arg1 harg1 arg2 harg2 arg3 harg3 x0 x1 x2 c) y
    (cover0_A_8 c i arg1 harg1 arg2 harg2 arg3 harg3 arg4 harg4 arg5 harg5 arg6 harg6 arg7 harg7 arg8 harg8 arg9 harg9 arg10
      harg10 arg11 harg11 x0 x1 x2 x3 x4 x5 x6 y)

/-- The scales' block after the point. -/
theorem out9_eq (c : Dev nD) (i : grid0.Coords) :
    out0_A_9 c i arg1 harg1 arg2 harg2 arg3 harg3 arg4 harg4 arg5 harg5 arg6 harg6 arg7 harg7 arg8 harg8 arg9 harg9 arg10
      harg10 arg11 harg11 x0 x1 x2 x3 x4 x5 x6 = (blockRow x0 x1 x2) := by
  funext y
  refine View.read_writes_apply_of_pieces VO0_9 _ (blockRow x0 x1 x2) _ ?_ y
    (cover0_A_9 c i arg1 harg1 arg2 harg2 arg3 harg3 arg4 harg4 arg5 harg5 arg6 harg6 arg7 harg7 arg8 harg8 arg9 harg9 arg10
      harg10 arg11 harg11 x0 x1 x2 x3 x4 x5 x6 y)
  intro p hp
  obtain rfl := List.mem_singleton.mp hp
  intro (x : S1x1x256.Idx)
  obtain ⟨u, v, r, rfl⟩ : ∃ (u v : Fin 1) (r : Fin 256), x = ix3 u v r := ⟨x 0, x 1, x 2, eq_ix3 x⟩
  refine Eq.trans ?_ (congrArg (blockRow x0 x1 x2) (emb_eq _ _ inb_S1x1x256_S1x1x256_0_0_0 (ix3 u v r) (ix3 u v r) fun
    | ⟨0, _⟩ => (Nat.zero_add _).symm
    | ⟨1, _⟩ => (Nat.zero_add _).symm
    | ⟨2, _⟩ => (Nat.zero_add _).symm).symm)
  refine (scaleRow_at (kernelRun0_A.sl.v584 c arg1 harg1 arg2 harg2 arg3 harg3 arg11 x0 x1 x2) u v r).trans ?_
  rw [scalesBack]
  rfl

end

end Cert.Proof

end
-- ==== Proof.Whole.lean ====
module

public import proofs.«01_k».proof.Proof.Row
public import proofs.«01_k».proof.Proof.Layout

/-! # The three results as functions of the arguments

One spelling for both programs: `scale` and `code` are the row scale and the row codes, taken from the kernel on one
side and from the reference on the other. -/

@[expose] public section

noncomputable section

namespace Cert.Proof

open Idealize.ShloMosaic Idealize.ShloMosaic.ValueIdx
open scoped BigOperators

/-- The arguments: the rows, the shift, scale and gate rows of each batch entry, the weights, the weights' column scales
    and the bias. -/
structure Args where
  x : (⟨3, ![6, 256, 1536]⟩ : Shape).Idx → EReal
  shift : (⟨2, ![6, 1536]⟩ : Shape).Idx → EReal
  scale : (⟨2, ![6, 1536]⟩ : Shape).Idx → EReal
  gate : (⟨2, ![6, 6144]⟩ : Shape).Idx → EReal
  w : (⟨2, ![1536, 6144]⟩ : Shape).Idx → EReal
  ws : (⟨1, ![6144]⟩ : Shape).Idx → EReal
  bias : (⟨1, ![6144]⟩ : Shape).Idx → EReal

namespace Args

variable (A : Args)

/-- Row `r` of batch entry `b`. -/
def xRow (b : Fin 6) (r : Fin 256) : Row := fun k => A.x (ix3 b r k)
/-- The shift row of batch entry `b`. -/
def shiftRow (b : Fin 6) : Row := fun k => A.shift (ix2 b k)
/-- The scale row of batch entry `b`. -/
def scaleRow (b : Fin 6) : Row := fun k => A.scale (ix2 b k)

/-- The codes of all rows. -/
def codes (code : Row → Row → Row → Row) : (⟨3, ![6, 256, 1536]⟩ : Shape).Idx → EReal :=
  fun i => code (A.xRow (i 0) (i 1)) (A.scaleRow (i 0)) (A.shiftRow (i 0)) (i 2)

/-- The scales of all rows. -/
def scales (scale : Row → Row → Row → EReal) : (⟨3, ![6, 1, 256]⟩ : Shape).Idx → EReal :=
  fun i => scale (A.xRow (i 0) (i 2)) (A.scaleRow (i 0)) (A.shiftRow (i 0))

/-- The projected rows: codes times weights, rescaled by row and by column, biased and gated. -/
def out (scale : Row → Row → Row → EReal) (code : Row → Row → Row → Row) : (⟨3, ![6, 256, 6144]⟩ : Shape).Idx → EReal :=
  fun i =>
    ((((∑ k : Fin 1536, code (A.xRow (i 0) (i 1)) (A.scaleRow (i 0)) (A.shiftRow (i 0)) k * A.w (ix2 k (i 2)))
      * scale (A.xRow (i 0) (i 1)) (A.scaleRow (i 0)) (A.shiftRow (i 0))) * A.ws (ix1 (i 2))) + A.bias (ix1 (i 2)))
      * A.gate (ix2 (i 0) (i 2))

/-- Shift and scale are in range. -/
def InRange : Prop := ∀ b k, Proof.InRange (A.shift (ix2 b k)) ∧ Proof.InRange (A.scale (ix2 b k))

variable {A}

/-- For arguments in range both quantisers give the same codes. -/
theorem codes_eq (h : A.InRange) : A.codes krowCode = A.codes rrowCode :=
  funext fun i => congrFun (rowCode_eq (fun j => (h (i 0) j).2) (fun j => (h (i 0) j).1)) (i 2)

/-- For arguments in range both quantisers give the same scales. -/
theorem scales_eq (h : A.InRange) : A.scales krowScale = A.scales rrowScale :=
  funext fun i => rowScale_eq (fun j => (h (i 0) j).2) (fun j => (h (i 0) j).1)

/-- For arguments in range both quantisers give the same output. -/
theorem out_eq (h : A.InRange) : A.out krowScale krowCode = A.out rrowScale rrowCode :=
  funext fun i => by
    unfold out
    rw [rowScale_eq (x := A.xRow (i 0) (i 1)) (g := A.scaleRow (i 0)) (t := A.shiftRow (i 0)) (fun j => (h (i 0) j).2) (fun j => (h (i 0) j).1),
      rowCode_eq (x := A.xRow (i 0) (i 1)) (g := A.scaleRow (i 0)) (t := A.shiftRow (i 0)) (fun j => (h (i 0) j).2) (fun j => (h (i 0) j).1)]

end Args

end Cert.Proof

end
-- ==== Proof.KernelArray.lean ====
module

public import proofs.«01_k».proof.Proof.Gen.KernelIdeal.Value
public import proofs.«01_k».proof.Proof.KernelBlock
public import proofs.«01_k».proof.Proof.Whole
public import Idealize.ShloMosaic.Lib.Pipeline.ValueKit.Point

/-! # The kernel's three result arrays

Grid point `t` reads batch entry `t` of every operand that has a batch axis, and all of the others; its three blocks are
batch entry `t` of the results. -/

@[expose] public section

noncomputable section

namespace Cert.Proof.Kernel

open Cert.KernelIdeal Cert.KernelIdeal.Gen Cert.KernelIdeal.Value Idealize.ShloMosaic.ValueIdx
open Idealize.ShloMosaic hiding ix1 ix2 ix3 eq_ix1 eq_ix2 eq_ix3
open Idealize.SL Idealize.SL.RA Idealize.SL.Sem Idealize.ShloMosaic.Pipeline
open scoped BigOperators

variable (m : (ℓ : Loc nD τ sig) → Buf (Elt Ideal) ℓ)

/-- The arguments of device `c`. -/
def args (c : Dev nD) : Args where
  x := m (c.tc.loc main_arg0)
  shift := m (c.tc.loc main_arg1)
  scale := m (c.tc.loc main_arg2)
  gate := m (c.tc.loc main_arg3)
  w := m (c.tc.loc main_arg4)
  ws := m (c.tc.loc main_arg5)
  bias := m (c.tc.loc main_arg6)

/-- The batch entry of a grid point. -/
def entry (t : Fin cfg0.N) : Fin 6 := ⟨t.val, lt_of_lt_of_eq t.isLt N_0⟩

/-- This window takes block `t` along the batch at grid step `t`. -/
theorem index0 : ∀ t : Fin cfg0.N, win0_0.index t = ![t.val, 0, 0] := (by decide +kernel : ∀ t : Fin grid0.N, win0_0.index t = ![t.val, 0, 0])
/-- This window takes block `t` along the batch at grid step `t`. -/
theorem index1 : ∀ t : Fin cfg0.N, win0_1.index t = ![t.val, 0, 0] := (by decide +kernel : ∀ t : Fin grid0.N, win0_1.index t = ![t.val, 0, 0])
/-- This window takes block `t` along the batch at grid step `t`. -/
theorem index2 : ∀ t : Fin cfg0.N, win0_2.index t = ![t.val, 0, 0] := (by decide +kernel : ∀ t : Fin grid0.N, win0_2.index t = ![t.val, 0, 0])
/-- This window takes block `t` along the batch at grid step `t`. -/
theorem index3 : ∀ t : Fin cfg0.N, win0_3.index t = ![t.val, 0, 0] := (by decide +kernel : ∀ t : Fin grid0.N, win0_3.index t = ![t.val, 0, 0])
/-- This window takes the same whole array at every grid step. -/
theorem index4 : ∀ t : Fin cfg0.N, win0_4.index t = ![0, 0] := (by decide +kernel : ∀ t : Fin grid0.N, win0_4.index t = ![0, 0])
/-- This window takes the same whole array at every grid step. -/
theorem index5 : ∀ t : Fin cfg0.N, win0_5.index t = ![0, 0] := (by decide +kernel : ∀ t : Fin grid0.N, win0_5.index t = ![0, 0])
/-- This window takes the same whole array at every grid step. -/
theorem index6 : ∀ t : Fin cfg0.N, win0_6.index t = ![0, 0] := (by decide +kernel : ∀ t : Fin grid0.N, win0_6.index t = ![0, 0])
/-- This window takes block `t` along the batch at grid step `t`. -/
theorem index7 : ∀ t : Fin cfg0.N, win0_7.index t = ![t.val, 0, 0] := (by decide +kernel : ∀ t : Fin grid0.N, win0_7.index t = ![t.val, 0, 0])
/-- This window takes block `t` along the batch at grid step `t`. -/
theorem index8 : ∀ t : Fin cfg0.N, win0_8.index t = ![t.val, 0, 0] := (by decide +kernel : ∀ t : Fin grid0.N, win0_8.index t = ![t.val, 0, 0])
/-- This window takes block `t` along the batch at grid step `t`. -/
theorem index9 : ∀ t : Fin cfg0.N, win0_9.index t = ![t.val, 0, 0] := (by decide +kernel : ∀ t : Fin grid0.N, win0_9.index t = ![t.val, 0, 0])

/-- The rows read at point `t`. -/
theorem block0 (c : Dev nD) (t : Fin cfg0.N) (r : Fin 256) (k : Fin 1536) :
    (iblk m c 0 t : Vec Ideal S1x256x1536 .bf16) (ix3 (0 : Fin 1) r k) = (args m c).x (ix3 (entry t) r k) := by
  have e : (win0_0.blk t).view.emb (ix3 (0 : Fin 1) r k) = ix3 (entry t) r k := by
    blk_ext [index0 t, entry]
  exact (congrArg (V m c main_arg0) e).trans (congrFun (V_main_arg0 m c) _)

/-- The shift row read at point `t`. -/
theorem block1 (c : Dev nD) (t : Fin cfg0.N) (k : Fin 1536) :
    (iblk m c 1 t : Vec Ideal S1x1x1536 .bf16) (ix3 (0 : Fin 1) (0 : Fin 1) k) = (args m c).shift (ix2 (entry t) k) := by
  have e : (win0_1.blk t).view.emb (ix3 (0 : Fin 1) (0 : Fin 1) k) = ix3 (entry t) (0 : Fin 1) k := by
    blk_ext [index1 t, entry]
  refine (congrArg (V m c main_v0) e).trans ?_
  entry_read
  exact shapeCast_stack_apply _ _ (entry t) (0 : Fin 1) k (entry t) (Nat.mul_one _).symm

/-- The scale row read at point `t`. -/
theorem block2 (c : Dev nD) (t : Fin cfg0.N) (k : Fin 1536) :
    (iblk m c 2 t : Vec Ideal S1x1x1536 .bf16) (ix3 (0 : Fin 1) (0 : Fin 1) k) = (args m c).scale (ix2 (entry t) k) := by
  have e : (win0_2.blk t).view.emb (ix3 (0 : Fin 1) (0 : Fin 1) k) = ix3 (entry t) (0 : Fin 1) k := by
    blk_ext [index2 t, entry]
  refine (congrArg (V m c main_v1) e).trans ?_
  entry_read
  exact shapeCast_stack_apply _ _ (entry t) (0 : Fin 1) k (entry t) (Nat.mul_one _).symm

/-- The gate row read at point `t`. -/
theorem block3 (c : Dev nD) (t : Fin cfg0.N) (n : Fin 6144) :
    (iblk m c 3 t : Vec Ideal S1x1x6144 .bf16) (ix3 (0 : Fin 1) (0 : Fin 1) n) = (args m c).gate (ix2 (entry t) n) := by
  have e : (win0_3.blk t).view.emb (ix3 (0 : Fin 1) (0 : Fin 1) n) = ix3 (entry t) (0 : Fin 1) n := by
    blk_ext [index3 t, entry]
  refine (congrArg (V m c main_v2) e).trans ?_
  entry_read
  exact shapeCast_stack_apply _ _ (entry t) (0 : Fin 1) n (entry t) (Nat.mul_one _).symm

/-- The weights read at point `t`. -/
theorem block4 (c : Dev nD) (t : Fin cfg0.N) (k : Fin 1536) (n : Fin 6144) :
    (iblk m c 4 t : Vec Ideal S1536x6144 .fp8e4m3) (ix2 k n) = (args m c).w (ix2 k n) := by
  have e : (win0_4.blk t).view.emb (ix2 k n) = ix2 k n := by
    blk_ext [index4 t, entry]
  exact (congrArg (V m c main_arg4) e).trans (congrFun (V_main_arg4 m c) _)

/-- The weights' column scales read at point `t`. -/
theorem block5 (c : Dev nD) (t : Fin cfg0.N) (n : Fin 6144) :
    (iblk m c 5 t : Vec Ideal S1x6144 .f32) (ix2 (0 : Fin 1) n) = (args m c).ws (ix1 n) := by
  have e : (win0_5.blk t).view.emb (ix2 (0 : Fin 1) n) = ix2 (0 : Fin 1) n := by
    blk_ext [index5 t, entry]
  refine (congrArg (V m c main_v3) e).trans ?_
  entry_read
  exact shapeCast_a_1a_apply _ _ _ _

/-- The bias read at point `t`. -/
theorem block6 (c : Dev nD) (t : Fin cfg0.N) (n : Fin 6144) :
    (iblk m c 6 t : Vec Ideal S1x6144 .bf16) (ix2 (0 : Fin 1) n) = (args m c).bias (ix1 n) := by
  have e : (win0_6.blk t).view.emb (ix2 (0 : Fin 1) n) = ix2 (0 : Fin 1) n := by
    blk_ext [index6 t, entry]
  refine (congrArg (V m c main_v4) e).trans ?_
  entry_read
  exact shapeCast_a_1a_apply _ _ _ _

/-- The codes of a point's block are those of the batch entry's rows. -/
theorem blockCodes_at (c : Dev nD) (t : Fin cfg0.N) (r : Fin 256) (j : Fin 1536) :
    blockCodes (iblk m c 0 t) (iblk m c 1 t) (iblk m c 2 t) (ix3 (0 : Fin 1) r j)
      = krowCode ((args m c).xRow (entry t) r) ((args m c).scaleRow (entry t)) ((args m c).shiftRow (entry t)) j := by
  show krowCode (fun k => (iblk m c 0 t : Vec Ideal S1x256x1536 .bf16) (ix3 (0 : Fin 1) r k))
    (fun k => (iblk m c 2 t : Vec Ideal S1x1x1536 .bf16) (ix3 (0 : Fin 1) (0 : Fin 1) k))
    (fun k => (iblk m c 1 t : Vec Ideal S1x1x1536 .bf16) (ix3 (0 : Fin 1) (0 : Fin 1) k)) j = _
  simp only [block0, block1, block2]
  rfl

/-- The scales of a point's block are those of the batch entry's rows. -/
theorem blockScale_at (c : Dev nD) (t : Fin cfg0.N) (r : Fin 256) :
    blockScale (iblk m c 0 t) (iblk m c 1 t) (iblk m c 2 t) r
      = krowScale ((args m c).xRow (entry t) r) ((args m c).scaleRow (entry t)) ((args m c).shiftRow (entry t)) := by
  show krowScale (fun k => (iblk m c 0 t : Vec Ideal S1x256x1536 .bf16) (ix3 (0 : Fin 1) r k))
    (fun k => (iblk m c 2 t : Vec Ideal S1x1x1536 .bf16) (ix3 (0 : Fin 1) (0 : Fin 1) k))
    (fun k => (iblk m c 1 t : Vec Ideal S1x1x1536 .bf16) (ix3 (0 : Fin 1) (0 : Fin 1) k)) = _
  simp only [block0, block1, block2]
  rfl

/-- The codes' array after the run. -/
theorem codes_final (c : Dev nD) : (dats m 0 c).arrAt 8 cfg0.N = (args m c).codes krowCode := by
  refine (dats m 0 c).arrAt_eq_of_cover 8 _ (fun t _ => ?_) (Window.Covers.cover (cfg0.win 8) (by decide +kernel) (Memref.isWhole_whole _))
  rw [flushed8_A, out8_eq]
  funext y
  obtain ⟨u, r, j, rfl⟩ : ∃ (u : Fin 1) (r : Fin 256) (j : Fin 1536), y = ix3 u r j := ⟨y 0, y 1, y 2, eq_ix3 y⟩
  obtain rfl : u = 0 := Fin.fin_one_eq_zero u
  have e : (win0_8.blk t).view.emb (ix3 (0 : Fin 1) r j) = ix3 (entry t) r j := by
    blk_ext [index8 t, entry]
  exact (blockCodes_at m c t r j).trans (congrArg ((args m c).codes krowCode) e).symm

/-- The scales' array after the run. -/
theorem scales_final (c : Dev nD) : (dats m 0 c).arrAt 9 cfg0.N = (args m c).scales krowScale := by
  refine (dats m 0 c).arrAt_eq_of_cover 9 _ (fun t _ => ?_) (Window.Covers.cover (cfg0.win 9) (by decide +kernel) (Memref.isWhole_whole _))
  rw [flushed9_A, out9_eq]
  funext y
  obtain ⟨u, v, r, rfl⟩ : ∃ (u v : Fin 1) (r : Fin 256), y = ix3 u v r := ⟨y 0, y 1, y 2, eq_ix3 y⟩
  obtain rfl : u = 0 := Fin.fin_one_eq_zero u
  obtain rfl : v = 0 := Fin.fin_one_eq_zero v
  have e : (win0_9.blk t).view.emb (ix3 (0 : Fin 1) (0 : Fin 1) r) = ix3 (entry t) (0 : Fin 1) r := by
    blk_ext [index9 t, entry]
  exact (blockScale_at m c t r).trans (congrArg ((args m c).scales krowScale) e).symm

/-- The projected rows' array after the run. -/
theorem out_final (c : Dev nD) : (dats m 0 c).arrAt 7 cfg0.N = (args m c).out krowScale krowCode := by
  refine (dats m 0 c).arrAt_eq_of_cover 7 _ (fun t _ => ?_) (Window.Covers.cover (cfg0.win 7) (by decide +kernel) (Memref.isWhole_whole _))
  rw [flushed7_A, out7_eq]
  funext y
  obtain ⟨u, r, n, rfl⟩ : ∃ (u : Fin 1) (r : Fin 256) (n : Fin 6144), y = ix3 u r n := ⟨y 0, y 1, y 2, eq_ix3 y⟩
  obtain rfl : u = 0 := Fin.fin_one_eq_zero u
  have e : (win0_7.blk t).view.emb (ix3 (0 : Fin 1) r n) = ix3 (entry t) r n := by
    blk_ext [index7 t, entry]
  refine Eq.trans ?_ (congrArg ((args m c).out krowScale krowCode) e).symm
  show ((((∑ k : Fin 1536, blockCodes (iblk m c 0 t) (iblk m c 1 t) (iblk m c 2 t) (ix3 (0 : Fin 1) r k)
      * (iblk m c 4 t : Vec Ideal S1536x6144 .fp8e4m3) (ix2 k n))
    * blockScale (iblk m c 0 t) (iblk m c 1 t) (iblk m c 2 t) r) * (iblk m c 5 t : Vec Ideal S1x6144 .f32) (ix2 (0 : Fin 1) n))
    + (iblk m c 6 t : Vec Ideal S1x6144 .bf16) (ix2 (0 : Fin 1) n)) * (iblk m c 3 t : Vec Ideal S1x1x6144 .bf16) (ix3 (0 : Fin 1) (0 : Fin 1) n) = (_ : EReal)
  simp only [blockCodes_at, blockScale_at, block3, block4, block5, block6]
  rfl

end Cert.Proof.Kernel

end
-- ==== Proof.ReferenceTile.lean ====
module

public import proofs.«01_k».proof.Proof.Gen.ReferenceIdeal.Skeleton
public import proofs.«01_k».proof.Proof.Row
public import proofs.«01_k».proof.Proof.Layout
public import Idealize.ShloMosaic.Lib.MatmulPlain

/-!
  # What the reference computes, read at an index

  The reference quantises all six batch entries at once and multiplies the 1536 rows of codes by the weights.
-/

@[expose] public section

noncomputable section

namespace Cert.Proof.Reference

open Cert.ReferenceIdeal Cert.ReferenceIdeal.Gen Idealize.ShloMosaic Idealize.ShloMosaic.ValueIdx
open scoped BigOperators

/-- Every row's sum. -/
def sumRows (x : FVec Ideal S6x256x1536 .f32) : FVec Ideal S6x256 .f32 := fun i => (∑ k : Fin 1536, (x (ix3 (i 0) (i 1) k) : EReal))

/-- Every row's maximum, from the start value `acc`. -/
def maxRows (acc : BitVec 32) (x : FVec Ideal S6x256x1536 .f32) : FVec Ideal S6x256 .f32 :=
  fun i => (Finset.univ : Finset (Fin 1536)).fold max (Ideal.ofBits .f32 acc : EReal) fun k => x (ix3 (i 0) (i 1) k)

/-- The row sum at a row is the sum over its columns. -/
theorem sumRows_at (x : FVec Ideal S6x256x1536 .f32) (b : Fin 6) (r : Fin 256) :
    sumRows x (ix2 b r) = (∑ k : Fin 1536, (x (ix3 b r k) : EReal)) := rfl

/-- The row maximum at a row is the maximum over its columns, from the starting value. -/
theorem maxRows_at (acc : BitVec 32) (x : FVec Ideal S6x256x1536 .f32) (b : Fin 6) (r : Fin 256) :
    maxRows acc x (ix2 b r) = (Finset.univ : Finset (Fin 1536)).fold max (Ideal.ofBits .f32 acc : EReal) fun k => x (ix3 b r k) := rfl

/-- The reference's two reductions are these. -/
theorem sumRows_eq {d : List (Fin S6x256x1536.rank)} (x : FVec Ideal S6x256x1536 .f32) (acc hr h h') (hd : d = [2]) :
    multiReduction .add d S6x256 x acc hr h h' = sumRows x := by
  subst hd
  funext i
  obtain ⟨b, r, rfl⟩ : ∃ (b : Fin 6) (r : Fin 256), i = ix2 b r := ⟨i 0, i 1, eq_ix2 i⟩
  exact rowSum3_at x acc _ h h' b r

/-- The printed maximum is `maxRows`. -/
theorem maxRows_eq {d : List (Fin S6x256x1536.rank)} (x : FVec Ideal S6x256x1536 .f32) (acc hr h h') (hd : d = [2]) :
    multiReduction .maximumf d S6x256 x acc hr h h' = maxRows acc x := by
  subst hd
  funext i
  obtain ⟨b, r, rfl⟩ : ∃ (b : Fin 6) (r : Fin 256), i = ix2 b r := ⟨i 0, i 1, eq_ix2 i⟩
  exact rowMax3_at x acc _ h h' b r

variable (x : Vec Ideal S6x256x1536 .bf16) (g t : Vec Ideal S6x1x1536 .bf16)

/-- Row `r` of batch entry `b`, and the entry's scale and shift rows. -/
def xOf (b : Fin 6) (r : Fin 256) : Row := fun k => x (ix3 b r k)
/-- The row of a one-row argument for batch `b`. -/
def rowOf (v : Vec Ideal S6x1x1536 .bf16) (b : Fin 6) : Row := fun k => v (ix3 b (0 : Fin 1) k)

/-- The modulated rows. -/
theorem modulated_at (b : Fin 6) (r : Fin 256) (j : Fin 1536) :
    k0_pay2 x g t (ix3 b r j) = modulated (xOf x b r) (rowOf g b) (rowOf t b) j := by
  unfold k0_pay2
  erw [sumRows_eq (hd := by rfl), sumRows_eq (hd := by rfl)]
  simp only [addf_at, mulf_at, subf_at, divf_at, rsqrt_at, broadcast_at, extf_at, ofBits_at, broadcastTo_ma1_mab_apply,
    broadcastTo_m1b_mab_apply, shapeCast_ab_ab1_apply, shapeCast_same, sumRows_at]
  rfl

/-- The unrounded scale of a row. -/
theorem raw_at (b : Fin 6) (r : Fin 256) (u : Fin 1) :
    k0_pay3 x g t (ix3 b r u) = mag (modulated (xOf x b r) (rowOf g b) (rowOf t b)) := by
  unfold k0_pay3
  erw [maxRows_eq (hd := by rfl)]
  simp only [mulf_at, absf_at, broadcast_at, ofBits_at, shapeCast_ab_ab1_apply, maxRows_at, modulated_at]
  rfl

/-- The test for a normal scale, the exponent, the scale and the codes, each read at an index. -/
theorem normal_at (i : S6x256x1.Idx) :
    k0_pay4 x g t i = IntOp.andi (Ideal.cmp .oge (k0_pay3 x g t i) (Ideal.ofBits .f32 0x00800000#32))
      (Ideal.cmp .olt (k0_pay3 x g t i) (Ideal.ofBits .f32 0x7F800000#32)) := by
  unfold k0_pay4
  rw [andi_at, cmpf_at, cmpf_at]
  rfl

/-- The logarithm is taken of the raw scale. -/
theorem log_raw : k0_pay5 x g t = log (k0_pay3 x g t) := rfl

/-- The exponent at a row, from the normal test and the logarithm there. -/
theorem exponent_of (n : IVec S6x256x1 1) (l : FVec Ideal S6x256x1 .f32) (i : S6x256x1.Idx) :
    k0_pay6 n l i = Scalar.select (n i)
      (Ideal.liftRound Int.floor (Ideal.div (l i) (Ideal.log (Ideal.ofBits .f32 0x40000000#32))) + Ideal.ofBits .f32 0x3F800000#32 : EReal)
      (Ideal.ofBits .f32 0x00000000#32) := by
  unfold k0_pay6
  rw [select_at, addf_at, floor_at, divf_at]
  rfl

/-- The scale at a row, from the normal test and the logarithm there. -/
theorem scale_of (n : IVec S6x256x1 1) (l : FVec Ideal S6x256x1 .f32) (i : S6x256x1.Idx) :
    k0_pay7 n l i = Ideal.exp2 (k0_pay6 n l i) := exp2_at _ _

/-- The code at an entry, from the value, the normal test and the logarithm there. -/
theorem code_of (v : FVec Ideal S6x256x1536 .f32) (n : IVec S6x256x1 1) (l : FVec Ideal S6x256x1 .f32) (b : Fin 6) (r : Fin 256)
    (j : Fin 1536) :
    k0_pay8 v n l (ix3 b r j)
      = clip ((v (ix3 b r j) : EReal) * Ideal.exp2 (Ideal.ofBits .f32 0x00000000#32 - (k0_pay6 n l (ix3 b r (0 : Fin 1)) : EReal) : EReal)) := by
  unfold k0_pay8
  rw [truncf_at, minimumf_at, maximumf_at, mulf_at, broadcastTo_ma1_mab_apply, exp2_at, subf_at]
  rfl

/-- The exponent of a row's scale. -/
theorem exponent_at (b : Fin 6) (r : Fin 256) (u : Fin 1) :
    k0_pay6 (k0_pay4 x g t) (k0_pay5 x g t) (ix3 b r u) = rexp (mag (modulated (xOf x b r) (rowOf g b) (rowOf t b))) := by
  rw [exponent_of, normal_at, log_raw, log_at, raw_at]
  rfl

/-- The scale of a row. -/
theorem scale_at (b : Fin 6) (r : Fin 256) (u : Fin 1) :
    k0_pay7 (k0_pay4 x g t) (k0_pay5 x g t) (ix3 b r u) = rrowScale (xOf x b r) (rowOf g b) (rowOf t b) := by
  rw [scale_of, exponent_at]
  rfl

/-- The scales written as rows. -/
theorem scales_at (b : Fin 6) (u : Fin 1) (r : Fin 256) :
    k0_pay1 (k0_pay7 (k0_pay4 x g t) (k0_pay5 x g t)) (ix3 b u r) = rrowScale (xOf x b r) (rowOf g b) (rowOf t b) := by
  unfold k0_pay1
  exact (transpose_ix3_021_apply _ _ _ _ _).trans (scale_at x g t b r u)

/-- The codes. -/
theorem codes_at (b : Fin 6) (r : Fin 256) (j : Fin 1536) :
    k0_pay8 (k0_pay2 x g t) (k0_pay4 x g t) (k0_pay5 x g t) (ix3 b r j) = rrowCode (xOf x b r) (rowOf g b) (rowOf t b) j := by
  rw [code_of, exponent_at, modulated_at]
  rfl

/-- The product of the codes and the weights, at a row and a column. -/
theorem product_at (q : FVec Ideal S1536x1536 .fp8e4m3) (w : FVec Ideal S1536x6144 .fp8e4m3) (r : Fin 1536) (n : Fin 6144) :
    matmul dot_S1536x1536_S1536x6144_S1536x6144_1_0_0_1_n_n none q w (constant S1536x6144 .f32 0x00000000#32) (ix2 r n)
      = (∑ k : Fin 1536, (q (ix2 r k) : EReal) * w (ix2 k n)) := by
  refine (Ideal.matmul_plain_apply (M := 1536) (K := 1536) (N := 6144) none q w (constant S1536x6144 .f32 0x00000000#32) r n).trans ?_
  exact (congrArg (· + _) (show (constant S1536x6144 .f32 0x00000000#32 (ix2 r n) : Ideal .f32) = (0 : EReal) from Ideal.ofBits_zero_f32)).trans (zero_add _)

/-- Row `r` of batch entry `b` among all rows. -/
def flat (b : Fin 6) (r : Fin 256) : Fin 1536 := ⟨b.val * 256 + r.val, by omega⟩

/-- The projected rows. -/
theorem out_at (w : Vec Ideal S1536x6144 .fp8e4m3) (ws : Vec Ideal S1x6144 .f32) (bias : Vec Ideal S1x6144 .bf16)
    (gate : Vec Ideal S6x1x6144 .bf16) (b : Fin 6) (r : Fin 256) (n : Fin 6144) :
    k0_pay9 (k0_pay2 x g t) (k0_pay4 x g t) (k0_pay5 x g t) w ws bias gate (ix3 b r n)
      = ((((∑ k : Fin 1536, rrowCode (xOf x b r) (rowOf g b) (rowOf t b) k * w (ix2 k n))
          * rrowScale (xOf x b r) (rowOf g b) (rowOf t b)) * ws (ix2 (0 : Fin 1) n) + bias (ix2 (0 : Fin 1) n))
          * gate (ix3 b (0 : Fin 1) n) : EReal) := by
  unfold k0_pay9
  simp only [truncf_at, extf_at, mulf_at, addf_at, broadcastTo_ma1_mab_apply, broadcastTo_m1b_mab_apply, broadcastTo_11b_mab_apply,
    shapeCast_ab_1ab_apply, shapeCast_same, scale_at]
  rw [shapeCast_stack_apply _ _ b r n (flat b r) rfl, product_at]
  simp only [fun k => shapeCast_tall_apply (k0_pay8 (k0_pay2 x g t) (k0_pay4 x g t) (k0_pay5 x g t))
    shapeCasts_S6x256x1536_S1536x1536 b r k (flat b r) rfl, codes_at]

end Cert.Proof.Reference

end
-- ==== Proof.ReferenceArray.lean ====
module

public import proofs.«01_k».proof.Proof.Gen.ReferenceIdeal.Frame
public import proofs.«01_k».proof.Proof.ReferenceTile
public import proofs.«01_k».proof.Proof.Whole
public import Idealize.ShloMosaic.Lib.Pipeline.ValueKit.Point

/-! # The reference's three result arrays

The reference runs at one grid point, whose blocks are the whole arrays. -/

@[expose] public section

noncomputable section

namespace Cert.Proof.Reference

open Cert.ReferenceIdeal Cert.ReferenceIdeal.Gen Idealize.ShloMosaic.ValueIdx
open Idealize.ShloMosaic hiding ix1 ix2 ix3 eq_ix1 eq_ix2 eq_ix3
open Idealize.SL Idealize.SL.RA Idealize.SL.Sem Idealize.ShloMosaic.Pipeline Idealize.ShloMosaic.TcCoe
open scoped BigOperators

variable (m : (ℓ : Loc nD τ sig) → Buf (Elt Ideal) ℓ) (ρ : Dev nD → PrngReg)

/-- The arguments of device `c`. -/
def args (c : Dev nD) : Args where
  x := m (c.tc.loc main_arg0)
  shift := m (c.tc.loc main_arg1)
  scale := m (c.tc.loc main_arg2)
  gate := m (c.tc.loc main_arg3)
  w := m (c.tc.loc main_arg4)
  ws := m (c.tc.loc main_arg5)
  bias := m (c.tc.loc main_arg6)

/-- Every block starts at the origin. -/
theorem index0 : ∀ t : Fin cfg0.N, win0_0.index t = ![0, 0, 0] := (by decide +kernel : ∀ t : Fin grid0.N, win0_0.index t = ![0, 0, 0])
/-- This window is the whole array at the only step. -/
theorem index1 : ∀ t : Fin cfg0.N, win0_1.index t = ![0, 0, 0] := (by decide +kernel : ∀ t : Fin grid0.N, win0_1.index t = ![0, 0, 0])
/-- This window is the whole array at the only step. -/
theorem index2 : ∀ t : Fin cfg0.N, win0_2.index t = ![0, 0, 0] := (by decide +kernel : ∀ t : Fin grid0.N, win0_2.index t = ![0, 0, 0])
/-- This window is the whole array at the only step. -/
theorem index3 : ∀ t : Fin cfg0.N, win0_3.index t = ![0, 0, 0] := (by decide +kernel : ∀ t : Fin grid0.N, win0_3.index t = ![0, 0, 0])
/-- This window is the whole array at the only step. -/
theorem index4 : ∀ t : Fin cfg0.N, win0_4.index t = ![0, 0] := (by decide +kernel : ∀ t : Fin grid0.N, win0_4.index t = ![0, 0])
/-- This window is the whole array at the only step. -/
theorem index5 : ∀ t : Fin cfg0.N, win0_5.index t = ![0, 0] := (by decide +kernel : ∀ t : Fin grid0.N, win0_5.index t = ![0, 0])
/-- This window is the whole array at the only step. -/
theorem index6 : ∀ t : Fin cfg0.N, win0_6.index t = ![0, 0] := (by decide +kernel : ∀ t : Fin grid0.N, win0_6.index t = ![0, 0])
/-- This window is the whole array at the only step. -/
theorem index7 : ∀ t : Fin cfg0.N, win0_7.index t = ![0, 0, 0] := (by decide +kernel : ∀ t : Fin grid0.N, win0_7.index t = ![0, 0, 0])
/-- This window is the whole array at the only step. -/
theorem index8 : ∀ t : Fin cfg0.N, win0_8.index t = ![0, 0, 0] := (by decide +kernel : ∀ t : Fin grid0.N, win0_8.index t = ![0, 0, 0])
/-- This window is the whole array at the only step. -/
theorem index9 : ∀ t : Fin cfg0.N, win0_9.index t = ![0, 0, 0] := (by decide +kernel : ∀ t : Fin grid0.N, win0_9.index t = ![0, 0, 0])

/-- A matrix given a middle axis of length one. -/
theorem middle_apply {α : Type} {a b : ℕ} (v : (⟨2, ![a, b]⟩ : Shape).Idx → α)
    (h : (⟨2, ![a, b]⟩ : Shape).BroadcastsInDim ⟨3, ![a, 1, b]⟩ ![0, 2]) (p : Fin a) (u : Fin 1) (q : Fin b) :
    broadcastInDim ⟨3, ![a, 1, b]⟩ ![0, 2] h v (ix3 p u q) = v (ix2 p q) := by
  refine broadcastInDim_apply ![0, 2] h v (ix3 p u q) (ix2 p q) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl

/-- A row given a leading axis of length one. -/
theorem leading_apply {α : Type} {b : ℕ} (v : (⟨1, ![b]⟩ : Shape).Idx → α)
    (h : (⟨1, ![b]⟩ : Shape).BroadcastsInDim ⟨2, ![1, b]⟩ ![1]) (u : Fin 1) (q : Fin b) :
    broadcastInDim ⟨2, ![1, b]⟩ ![1] h v (ix2 u q) = v (ix1 q) := by
  refine broadcastInDim_apply ![1] h v (ix2 u q) (ix1 q) fun ax => ?_
  match ax with
  | ⟨0, _⟩ =>
    show q.val = if b = 1 then 0 else q.val
    split
    · have := q.isLt; omega
    · rfl

/-- The rows read. -/
theorem block0 (c : Dev nD) (t : Fin cfg0.N) (b : Fin 6) (r : Fin 256) : xOf (iblk m c 0 t) b r = (args m c).xRow b r := by
  funext k
  have e : (win0_0.blk t).view.emb (ix3 b r k) = ix3 b r k := by blk_ext [index0 t]
  exact (congrArg (V m c main_arg0) e).trans (congrFun (V_main_arg0 m c) _)

/-- The shift rows read. -/
theorem block1 (c : Dev nD) (t : Fin cfg0.N) (b : Fin 6) : rowOf (iblk m c 1 t) b = (args m c).shiftRow b := by
  funext k
  have e : (win0_1.blk t).view.emb (ix3 b (0 : Fin 1) k) = ix3 b (0 : Fin 1) k := by blk_ext [index1 t]
  refine (congrArg (V m c main_v0) e).trans ?_
  entry_read
  exact middle_apply _ _ b (0 : Fin 1) k

/-- The scale rows read. -/
theorem block2 (c : Dev nD) (t : Fin cfg0.N) (b : Fin 6) : rowOf (iblk m c 2 t) b = (args m c).scaleRow b := by
  funext k
  have e : (win0_2.blk t).view.emb (ix3 b (0 : Fin 1) k) = ix3 b (0 : Fin 1) k := by blk_ext [index2 t]
  refine (congrArg (V m c main_v1) e).trans ?_
  entry_read
  exact middle_apply _ _ b (0 : Fin 1) k

/-- The gate rows read. -/
theorem block3 (c : Dev nD) (t : Fin cfg0.N) (b : Fin 6) (n : Fin 6144) :
    (iblk m c 3 t : Vec Ideal S6x1x6144 .bf16) (ix3 b (0 : Fin 1) n) = (args m c).gate (ix2 b n) := by
  have e : (win0_3.blk t).view.emb (ix3 b (0 : Fin 1) n) = ix3 b (0 : Fin 1) n := by blk_ext [index3 t]
  refine (congrArg (V m c main_v2) e).trans ?_
  entry_read
  exact middle_apply _ _ b (0 : Fin 1) n

/-- The weights read. -/
theorem block4 (c : Dev nD) (t : Fin cfg0.N) (k : Fin 1536) (n : Fin 6144) :
    (iblk m c 4 t : Vec Ideal S1536x6144 .fp8e4m3) (ix2 k n) = (args m c).w (ix2 k n) := by
  have e : (win0_4.blk t).view.emb (ix2 k n) = ix2 k n := by blk_ext [index4 t]
  exact (congrArg (V m c main_arg4) e).trans (congrFun (V_main_arg4 m c) _)

/-- The weights' column scales read. -/
theorem block5 (c : Dev nD) (t : Fin cfg0.N) (n : Fin 6144) :
    (iblk m c 5 t : Vec Ideal S1x6144 .f32) (ix2 (0 : Fin 1) n) = (args m c).ws (ix1 n) := by
  have e : (win0_5.blk t).view.emb (ix2 (0 : Fin 1) n) = ix2 (0 : Fin 1) n := by blk_ext [index5 t]
  refine (congrArg (V m c main_v3) e).trans ?_
  entry_read
  exact leading_apply _ _ _ _

/-- The bias read. -/
theorem block6 (c : Dev nD) (t : Fin cfg0.N) (n : Fin 6144) :
    (iblk m c 6 t : Vec Ideal S1x6144 .bf16) (ix2 (0 : Fin 1) n) = (args m c).bias (ix1 n) := by
  have e : (win0_6.blk t).view.emb (ix2 (0 : Fin 1) n) = ix2 (0 : Fin 1) n := by blk_ext [index6 t]
  refine (congrArg (V m c main_v4) e).trans ?_
  entry_read
  exact leading_apply _ _ _ _

/-- Three zero offsets are the zero function. -/
theorem zero3 : (![0, 0, 0] : Fin 3 → Nat) = fun _ => 0 := funext fun | ⟨0, _⟩ => rfl | ⟨1, _⟩ => rfl | ⟨2, _⟩ => rfl
/-- Two zero offsets are the zero function. -/
theorem zero2 : (![0, 0] : Fin 2 → Nat) = fun _ => 0 := funext fun | ⟨0, _⟩ => rfl | ⟨1, _⟩ => rfl

variable (x0 : Vec Ideal S6x256x1536 .bf16) (x1 x2 : Vec Ideal S6x1x1536 .bf16) (x3 : Vec Ideal S6x1x6144 .bf16)
  (x4 : Vec Ideal S1536x6144 .fp8e4m3) (x5 : Vec Ideal S1x6144 .f32) (x6 : Vec Ideal S1x6144 .bf16)

/-- The body's loads and stores are of whole blocks, so each block it leaves is what it stored. -/
theorem body7 : out0_7 x0 x1 x2 x3 x4 x5 x6 = k0_pay9 (k0_pay2 x0 x2 x1) (k0_pay4 x0 x2 x1) (k0_pay5 x0 x2 x1) x4 x5 x6 x3 := by
  unfold out0_7 k0_pay10 k0_pay11 k0_pay12
  rw [View.canon_unit_zero zero3, View.ld_unit_zero zero3, View.ld_unit_zero zero3, View.ld_unit_zero zero3, View.ld_unit_zero zero2,
    View.ld_unit_zero zero2, View.ld_unit_zero zero2, View.ld_unit_zero zero3]

/-- What the body stores as codes, by its named parts. -/
theorem body8 : out0_8 x0 x1 x2 x3 x4 x5 x6 = k0_pay8 (k0_pay2 x0 x2 x1) (k0_pay4 x0 x2 x1) (k0_pay5 x0 x2 x1) := by
  unfold out0_8 k0_pay10 k0_pay11 k0_pay12
  rw [View.canon_unit_zero zero3, View.ld_unit_zero zero3, View.ld_unit_zero zero3, View.ld_unit_zero zero3]

/-- What the body stores as scales, by its named parts. -/
theorem body9 : out0_9 x0 x1 x2 x3 x4 x5 x6 = k0_pay1 (k0_pay7 (k0_pay4 x0 x2 x1) (k0_pay5 x0 x2 x1)) := by
  unfold out0_9 k0_pay11 k0_pay12
  rw [View.canon_unit_zero zero3, View.ld_unit_zero zero3, View.ld_unit_zero zero3, View.ld_unit_zero zero3]

/-- The codes' array after the run. -/
theorem codes_final (c : Dev nD) : (dats m 0 c).arrAt 8 cfg0.N = (args m c).codes rrowCode := by
  refine (dats m 0 c).arrAt_eq_of_cover 8 _ (fun t _ => ?_) (Window.Covers.cover (cfg0.win 8) (by decide +kernel) (Memref.isWhole_whole _))
  show (cfg0.win 8).cut (grid0.coords t) ((dats m 0 c).after 8 t) = _
  rw [after0_8, body8]
  funext y
  obtain ⟨b, r, j, rfl⟩ : ∃ (b : Fin 6) (r : Fin 256) (j : Fin 1536), y = ix3 b r j := ⟨y 0, y 1, y 2, eq_ix3 y⟩
  have e : (win0_8.blk t).view.emb (ix3 b r j) = ix3 b r j := by blk_ext [index8 t]
  refine Eq.trans ?_ (congrArg ((args m c).codes rrowCode) e).symm
  refine (codes_at (iblk m c 0 t) (iblk m c 2 t) (iblk m c 1 t) b r j).trans ?_
  rw [block0, block1, block2]
  rfl

/-- The scales' array after the run. -/
theorem scales_final (c : Dev nD) : (dats m 0 c).arrAt 9 cfg0.N = (args m c).scales rrowScale := by
  refine (dats m 0 c).arrAt_eq_of_cover 9 _ (fun t _ => ?_) (Window.Covers.cover (cfg0.win 9) (by decide +kernel) (Memref.isWhole_whole _))
  show (cfg0.win 9).cut (grid0.coords t) ((dats m 0 c).after 9 t) = _
  rw [after0_9, body9]
  funext y
  obtain ⟨b, u, r, rfl⟩ : ∃ (b : Fin 6) (u : Fin 1) (r : Fin 256), y = ix3 b u r := ⟨y 0, y 1, y 2, eq_ix3 y⟩
  have e : (win0_9.blk t).view.emb (ix3 b u r) = ix3 b u r := by blk_ext [index9 t]
  refine Eq.trans ?_ (congrArg ((args m c).scales rrowScale) e).symm
  refine (scales_at (iblk m c 0 t) (iblk m c 2 t) (iblk m c 1 t) b u r).trans ?_
  rw [block0, block1, block2]
  rfl

/-- The projected rows' array after the run. -/
theorem out_final (c : Dev nD) : (dats m 0 c).arrAt 7 cfg0.N = (args m c).out rrowScale rrowCode := by
  refine (dats m 0 c).arrAt_eq_of_cover 7 _ (fun t _ => ?_) (Window.Covers.cover (cfg0.win 7) (by decide +kernel) (Memref.isWhole_whole _))
  show (cfg0.win 7).cut (grid0.coords t) ((dats m 0 c).after 7 t) = _
  rw [after0_7, body7]
  funext y
  obtain ⟨b, r, n, rfl⟩ : ∃ (b : Fin 6) (r : Fin 256) (n : Fin 6144), y = ix3 b r n := ⟨y 0, y 1, y 2, eq_ix3 y⟩
  have e : (win0_7.blk t).view.emb (ix3 b r n) = ix3 b r n := by blk_ext [index7 t]
  refine Eq.trans ?_ (congrArg ((args m c).out rrowScale rrowCode) e).symm
  refine (out_at (iblk m c 0 t) (iblk m c 2 t) (iblk m c 1 t) (iblk m c 4 t) (iblk m c 5 t) (iblk m c 6 t) (iblk m c 3 t) b r n).trans ?_
  rw [block0, block1, block2, block3, block5, block6]
  simp only [block4]
  rfl

/-- The run: the three arrays at their values, the arguments kept. -/
theorem run : θ_run defs (onTc (τ := τ) (main (F := Ideal))) ⟨m, fun _ => 0, ρ⟩ fun r => ∀ c : Dev nD,
      r.2.mem ((c : Thread nD τ).loc main_v5_0) = (args m c).out rrowScale rrowCode
      ∧ r.2.mem ((c : Thread nD τ).loc main_v5_1) = (args m c).codes rrowCode
      ∧ r.2.mem ((c : Thread nD τ).loc main_v5_2) = (args m c).scales rrowScale
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨((h.1 c).1 7).trans (out_final m c), ((h.1 c).1 8).trans (codes_final m c),
      ((h.1 c).1 9).trans (scales_final m c), h.2 c⟩)
    (θ_run_and (run_main m ρ) (unchanged m ρ))

end Cert.Proof.Reference

end
-- ==== Proof.Range.lean ====
module

public import proofs.«01_k».proof.Pre_in_bf16_range
public import proofs.«01_k».proof.Proof.Row
public import proofs.«01_k».proof.Proof.Layout
public import Idealize.ShloMosaic.Lib.Decide

/-! # What the precondition says

Every entry of the shift and of the scale is infinite or at most the largest finite bf16 number in magnitude. -/

@[expose] public section

noncomputable section

namespace Cert.Proof

open Idealize.ShloMosaic Idealize.ShloMosaic.ValueIdx

/-- The side condition of the precondition's constants. -/
theorem rangeFacts : Cert.Pre_in_bf16_range.Facts where
  bcast_S_S6x1536 := by decide +kernel

/-- The largest finite bf16 number. -/
theorem b_bmax : Ideal.ofBits .bf16 0x7F7F#16 = (bmax : EReal) := by
  simp only [Ideal.ofBits, Ideal.ieee]
  refine (if_neg (by decide) |>.trans (if_neg (by decide))).trans (congrArg Real.toEReal ?_)
  simp
  norm_num [bmax]

/-- The bf16 infinity. -/
theorem b_inf : Ideal.ofBits .bf16 0x7F80#16 = ⊤ := by simp [Ideal.ofBits, Ideal.ieee]

/-- One element's test holds only for a number in range. -/
theorem inRange_of_test (a : EReal)
    (h : IntOp.ori (Ideal.cmp .ole (max a (-a)) (Ideal.ofBits .bf16 0x7F7F#16)) (Ideal.cmp .oeq (max a (-a)) (Ideal.ofBits .bf16 0x7F80#16)) = 1#1) :
    InRange a := by
  rw [b_bmax, b_inf] at h
  by_contra hn
  unfold InRange at hn
  rw [not_or] at hn
  have h1 : Ideal.cmp .ole (max a (-a)) (bmax : EReal) = 0#1 := by
    show BitVec.ofBool (decide _) = _
    rw [decide_eq_false hn.1]; rfl
  have h2 : Ideal.cmp .oeq (max a (-a)) ⊤ = 0#1 := by
    show BitVec.ofBool (decide _) = _
    rw [decide_eq_false hn.2]; rfl
  rw [h1, h2] at h
  exact absurd h (by decide)

/-- The conjunction of two bits is one only when both are. -/
theorem both_of_andi (a b : BitVec 1) (h : IntOp.andi a b = 1#1) : a = 1#1 ∧ b = 1#1 := by
  revert h; revert a b; decide

open Cert.Pre_in_bf16_range in
/-- The precondition, read: every entry of the shift and of the scale is in range. -/
theorem inRange_of_pre [Cert.Pre_in_bf16_range.Facts] (x : FVec Ideal S6x256x1536 .bf16) (shift scale : FVec Ideal S6x1536 .bf16)
    (gate : FVec Ideal S6x6144 .bf16) (w : FVec Ideal S1536x6144 .fp8e4m3) (ws : FVec Ideal S6144 .f32) (bias : FVec Ideal S6144 .bf16)
    (h : Cert.Pre_in_bf16_range.fn (F := Ideal) x shift scale gate w ws bias = fun _ => 1#1) (b : Fin 6) (k : Fin 1536) :
    InRange (shift (ix2 b k)) ∧ InRange (scale (ix2 b k)) := by
  obtain ⟨h1, h2⟩ := both_of_andi _ _ (congrFun h (ix2 b k))
  exact ⟨inRange_of_test _ h1, inRange_of_test _ h2⟩

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.KernelIdeal.Value
public import proofs.«01_k».proof.Proof.KernelArray
public import proofs.«01_k».proof.Proof.ReferenceArray
public import proofs.«01_k».proof.Proof.Range
public import Idealize.ShloMosaic.Adequacy
public import Idealize.ShloMosaic.Init

@[expose] public section

noncomputable section

/-! # The certificate's claim

The three programs run and leave their arguments and semaphores as they were; the kernel read over the extended reals is
the printed kernel with nothing rewritten; and, for a shift and a scale in bf16's range, the kernel and the reference
leave the same projected rows, codes and scales. -/

namespace Cert.Proof

open Idealize.ShloMosaic Idealize.SL.Sem

/-- The kernel's run: the three arrays at their values, the arguments kept. -/
theorem kernel_run (m : (ℓ : Loc KernelIdeal.nD KernelIdeal.τ KernelIdeal.sig) → Buf (Elt Ideal) ℓ) (ρ : Dev KernelIdeal.nD → PrngReg) :
    θ_run (KernelIdeal.defs (F := Ideal)) (onTc (τ := KernelIdeal.τ) (KernelIdeal.main (F := Ideal))) ⟨m, fun _ => 0, ρ⟩ fun r =>
      ∀ c : Dev KernelIdeal.nD,
        r.2.mem ((c.tc : Thread KernelIdeal.nD KernelIdeal.τ).loc KernelIdeal.main_v5_0) = (Kernel.args m c).out krowScale krowCode
        ∧ r.2.mem ((c.tc : Thread KernelIdeal.nD KernelIdeal.τ).loc KernelIdeal.main_v5_1) = (Kernel.args m c).codes krowCode
        ∧ r.2.mem ((c.tc : Thread KernelIdeal.nD KernelIdeal.τ).loc KernelIdeal.main_v5_2) = (Kernel.args m c).scales krowScale
        ∧ r.2.mem ((c.tc : Thread KernelIdeal.nD KernelIdeal.τ).loc KernelIdeal.main_arg0) = m ((c.tc : Thread KernelIdeal.nD KernelIdeal.τ).loc KernelIdeal.main_arg0)
        ∧ r.2.mem ((c.tc : Thread KernelIdeal.nD KernelIdeal.τ).loc KernelIdeal.main_arg1) = m ((c.tc : Thread KernelIdeal.nD KernelIdeal.τ).loc KernelIdeal.main_arg1)
        ∧ r.2.mem ((c.tc : Thread KernelIdeal.nD KernelIdeal.τ).loc KernelIdeal.main_arg2) = m ((c.tc : Thread KernelIdeal.nD KernelIdeal.τ).loc KernelIdeal.main_arg2)
        ∧ r.2.mem ((c.tc : Thread KernelIdeal.nD KernelIdeal.τ).loc KernelIdeal.main_arg3) = m ((c.tc : Thread KernelIdeal.nD KernelIdeal.τ).loc KernelIdeal.main_arg3)
        ∧ r.2.mem ((c.tc : Thread KernelIdeal.nD KernelIdeal.τ).loc KernelIdeal.main_arg4) = m ((c.tc : Thread KernelIdeal.nD KernelIdeal.τ).loc KernelIdeal.main_arg4)
        ∧ r.2.mem ((c.tc : Thread KernelIdeal.nD KernelIdeal.τ).loc KernelIdeal.main_arg5) = m ((c.tc : Thread KernelIdeal.nD KernelIdeal.τ).loc KernelIdeal.main_arg5)
        ∧ r.2.mem ((c.tc : Thread KernelIdeal.nD KernelIdeal.τ).loc KernelIdeal.main_arg6) = m ((c.tc : Thread KernelIdeal.nD KernelIdeal.τ).loc KernelIdeal.main_arg6) :=
  (θ_run KernelIdeal.defs _ _).mono (fun _ h c => ⟨(h c).1.trans (Kernel.out_final m c), (h c).2.1.trans (Kernel.codes_final m c),
      (h c).2.2.1.trans (Kernel.scales_final m c), (h c).2.2.2⟩)
    (KernelIdeal.Value.run_blocks m ρ)

/-- Kernel and reference leave equal arrays where the shift and the scale are in range. -/
theorem algebraic : Cert.algebraic_KernelIdeal_ReferenceIdeal_pre_in_bf16_range (hPre_in_bf16_range := rangeFacts) := by
  intro m g m' g' hpre hagree
  have hargs : ∀ c : Dev KernelIdeal.nD, Reference.args m' c = Kernel.args m c := fun c => by
    obtain ⟨h0, h1, h2, h3, h4, h5, h6⟩ := hagree c
    unfold Reference.args Kernel.args
    exact congr (congr (congr (congr (congr (congr (congrArg Args.mk h0) h1) h2) h3) h4) h5) h6
  have hrange : ∀ c : Dev KernelIdeal.nD, (Kernel.args m c).InRange := fun c b k =>
    @inRange_of_pre rangeFacts _ _ _ _ _ _ _ (hpre c) b k
  refine ⟨fun c => (Kernel.args m c).out krowScale krowCode, fun c => (Kernel.args m c).codes krowCode,
    fun c => (Kernel.args m c).scales krowScale, kernel_run m g, ?_⟩
  refine (θ_run ReferenceIdeal.defs _ _).mono (fun r h c => ?_) (Reference.run m' g')
  have h := h c
  rw [hargs c, ← Args.out_eq (hrange c), ← Args.codes_eq (hrange c), ← Args.scales_eq (hrange c)] at h
  exact h

/-- Everything the certificate claims. -/
theorem claim : Cert.Claim :=
  ⟨Cert.Kernel.Gen.facts, Cert.KernelIdeal.Gen.facts, Cert.ReferenceIdeal.Gen.facts, rangeFacts,
    fun m ρ _ => Cert.Kernel.Gen.frame m ρ,
    fun m ρ _ => Cert.KernelIdeal.Gen.frame m ρ, fun m ρ _ => Cert.KernelIdeal.Gen.frame m ρ,
    fun m ρ _ => Cert.ReferenceIdeal.Gen.frame m ρ, fun m ρ _ => Cert.ReferenceIdeal.Gen.frame m ρ,
    trivial, algebraic⟩

end Cert.Proof

end
